-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x2048 : Shape := ⟨3, ![4, 8192, 2048]⟩
abbrev S32768x2048 : Shape := ⟨2, ![32768, 2048]⟩
abbrev S16x2048 : Shape := ⟨2, ![16, 2048]⟩
abbrev S_ : Shape := ⟨0, ![]⟩
abbrev S1x16 : Shape := ⟨2, ![1, 16]⟩
abbrev S16 : Shape := ⟨1, ![16]⟩

abbrev nBuf : Table → Nat
  | .hbm => 4
  | .local .scVector .vmem => 3
  | _ => 0

abbrev bufTy : (tb : Table) → Fin (nBuf tb) → BufTy
  | .hbm, ⟨0, _⟩ => ⟨S4x8192x2048, .f32⟩
  | .hbm, ⟨1, _⟩ => ⟨S32768x2048, .f32⟩
  | .hbm, ⟨2, _⟩ => ⟨S32768x2048, .f32⟩
  | .hbm, ⟨3, _⟩ => ⟨S4x8192x2048, .f32⟩
  | .local .scVector .vmem, ⟨0, _⟩ => ⟨S16x2048, .f32⟩
  | .local .scVector .vmem, ⟨1, _⟩ => ⟨S16x2048, .f32⟩
  | .local .scVector .vmem, ⟨2, _⟩ => ⟨S16x2048, .f32⟩
  | _, _ => ⟨S4x8192x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_1 : BitVec 32) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v5 : BitVec 32 := Scalar.addi v3 c0_i32_1
  let c0_i32_2 : BitVec 32 := 0#32
  ![v5.toNat, 0]
def k0_off1_at (r : Fin 4) : BitVec 32 :=
  if r.val < 2 then
    if r.val < 1 then
      0#32
    else
      16#32
  else
    if r.val < 3 then
      32#32
    else
      1008#32
def k0_off2 (i : grid0.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let c0_i32_6 : BitVec 32 := 0#32
  ![v3.toNat, 0]
@[reducible] def k0_t1_loop : Scf.Loop 32 :=
  let c0_i32_8 : BitVec 32 := 0#32
  let c128_i32 : BitVec 32 := 128#32
  let v13 : BitVec 32 := Scalar.addi c0_i32_8 c128_i32
  let c1_i32 : BitVec 32 := 1#32
  ⟨c0_i32_8, v13, c1_i32⟩
def k0_off3 (k0_t1 : Fin k0_t1_loop.trips) : Fin 2 → Nat :=
  let c0_i32_56 : BitVec 32 := 0#32
  let v52 : Index := Scalar.indexCast c0_i32_56
  let c0_i32_55 : BitVec 32 := 0#32
  let c0_i32_8 : BitVec 32 := 0#32
  let c1_i32 : BitVec 32 := 1#32
  let arg13 : BitVec 32 := Scf.iv c0_i32_8 c1_i32 k0_t1
  let c16_i32_54 : BitVec 32 := 16#32
  let v50 : BitVec 32 := Scalar.muli arg13 c16_i32_54
  let v51 : BitVec 32 := Scalar.addi c0_i32_55 v50
  let v53 : Index := Scalar.indexCast v51
  ![0, v53.toNat]
def k0_off4 (k0_t1 : Fin k0_t1_loop.trips) : Fin 2 → Nat :=
  let c1_i32_58 : BitVec 32 := 1#32
  let v63 : Index := Scalar.indexCast c1_i32_58
  let c0_i32_55 : BitVec 32 := 0#32
  let c0_i32_8 : BitVec 32 := 0#32
  let c1_i32 : BitVec 32 := 1#32
  let arg13 : BitVec 32 := Scf.iv c0_i32_8 c1_i32 k0_t1
  let c16_i32_54 : BitVec 32 := 16#32
  let v50 : BitVec 32 := Scalar.muli arg13 c16_i32_54
  let v51 : BitVec 32 := Scalar.addi c0_i32_55 v50
  let v64 : Index := Scalar.indexCast v51
  ![1, v64.toNat]
def k0_off5 (k0_t1 : Fin k0_t1_loop.trips) : Fin 2 → Nat :=
  let c2_i32_61 : BitVec 32 := 2#32
  let v74 : Index := Scalar.indexCast c2_i32_61
  let c0_i32_55 : BitVec 32 := 0#32
  let c0_i32_8 : BitVec 32 := 0#32
  let c1_i32 : BitVec 32 := 1#32
  let arg13 : BitVec 32 := Scf.iv c0_i32_8 c1_i32 k0_t1
  let c16_i32_54 : BitVec 32 := 16#32
  let v50 : BitVec 32 := Scalar.muli arg13 c16_i32_54
  let v51 : BitVec 32 := Scalar.addi c0_i32_55 v50
  let v75 : Index := Scalar.indexCast v51
  ![2, v75.toNat]
def k0_off6 (k0_t1 : Fin k0_t1_loop.trips) : Fin 2 → Nat :=
  let c3_i32 : BitVec 32 := 3#32
  let v85 : Index := Scalar.indexCast c3_i32
  let c0_i32_55 : BitVec 32 := 0#32
  let c0_i32_8 : BitVec 32 := 0#32
  let c1_i32 : BitVec 32 := 1#32
  let arg13 : BitVec 32 := Scf.iv c0_i32_8 c1_i32 k0_t1
  let c16_i32_54 : BitVec 32 := 16#32
  let v50 : BitVec 32 := Scalar.muli arg13 c16_i32_54
  let v51 : BitVec 32 := Scalar.addi c0_i32_55 v50
  let v86 : Index := Scalar.indexCast v51
  ![3, v86.toNat]
def k0_off7 (k0_t1 : Fin k0_t1_loop.trips) : Fin 2 → Nat :=
  let c4_i32 : BitVec 32 := 4#32
  let v96 : Index := Scalar.indexCast c4_i32
  let c0_i32_55 : BitVec 32 := 0#32
  let c0_i32_8 : BitVec 32 := 0#32
  let c1_i32 : BitVec 32 := 1#32
  let arg13 : BitVec 32 := Scf.iv c0_i32_8 c1_i32 k0_t1
  let c16_i32_54 : BitVec 32 := 16#32
  let v50 : BitVec 32 := Scalar.muli arg13 c16_i32_54
  let v51 : BitVec 32 := Scalar.addi c0_i32_55 v50
  let v97 : Index := Scalar.indexCast v51
  ![4, v97.toNat]
def k0_off8 (k0_t1 : Fin k0_t1_loop.trips) : Fin 2 → Nat :=
  let c5_i32 : BitVec 32 := 5#32
  let v107 : Index := Scalar.indexCast c5_i32
  let c0_i32_55 : BitVec 32 := 0#32
  let c0_i32_8 : BitVec 32 := 0#32
  let c1_i32 : BitVec 32 := 1#32
  let arg13 : BitVec 32 := Scf.iv c0_i32_8 c1_i32 k0_t1
  let c16_i32_54 : BitVec 32 := 16#32
  let v50 : BitVec 32 := Scalar.muli arg13 c16_i32_54
  let v51 : BitVec 32 := Scalar.addi c0_i32_55 v50
  let v108 : Index := Scalar.indexCast v51
  ![5, v108.toNat]
def k0_off9 (k0_t1 : Fin k0_t1_loop.trips) : Fin 2 → Nat :=
  let c6_i32 : BitVec 32 := 6#32
  let v118 : Index := Scalar.indexCast c6_i32
  let c0_i32_55 : BitVec 32 := 0#32
  let c0_i32_8 : BitVec 32 := 0#32
  let c1_i32 : BitVec 32 := 1#32
  let arg13 : BitVec 32 := Scf.iv c0_i32_8 c1_i32 k0_t1
  let c16_i32_54 : BitVec 32 := 16#32
  let v50 : BitVec 32 := Scalar.muli arg13 c16_i32_54
  let v51 : BitVec 32 := Scalar.addi c0_i32_55 v50
  let v119 : Index := Scalar.indexCast v51
  ![6, v119.toNat]
def k0_off10 (k0_t1 : Fin k0_t1_loop.trips) : Fin 2 → Nat :=
  let c7_i32 : BitVec 32 := 7#32
  let v129 : Index := Scalar.indexCast c7_i32
  let c0_i32_55 : BitVec 32 := 0#32
  let c0_i32_8 : BitVec 32 := 0#32
  let c1_i32 : BitVec 32 := 1#32
  let arg13 : BitVec 32 := Scf.iv c0_i32_8 c1_i32 k0_t1
  let c16_i32_54 : BitVec 32 := 16#32
  let v50 : BitVec 32 := Scalar.muli arg13 c16_i32_54
  let v51 : BitVec 32 := Scalar.addi c0_i32_55 v50
  let v130 : Index := Scalar.indexCast v51
  ![7, v130.toNat]
def k0_off11 (k0_t1 : Fin k0_t1_loop.trips) : Fin 2 → Nat :=
  let c8_i32 : BitVec 32 := 8#32
  let v140 : Index := Scalar.indexCast c8_i32
  let c0_i32_55 : BitVec 32 := 0#32
  let c0_i32_8 : BitVec 32 := 0#32
  let c1_i32 : BitVec 32 := 1#32
  let arg13 : BitVec 32 := Scf.iv c0_i32_8 c1_i32 k0_t1
  let c16_i32_54 : BitVec 32 := 16#32
  let v50 : BitVec 32 := Scalar.muli arg13 c16_i32_54
  let v51 : BitVec 32 := Scalar.addi c0_i32_55 v50
  let v141 : Index := Scalar.indexCast v51
  ![8, v141.toNat]
def k0_off12 (k0_t1 : Fin k0_t1_loop.trips) : Fin 2 → Nat :=
  let c9_i32 : BitVec 32 := 9#32
  let v151 : Index := Scalar.indexCast c9_i32
  let c0_i32_55 : BitVec 32 := 0#32
  let c0_i32_8 : BitVec 32 := 0#32
  let c1_i32 : BitVec 32 := 1#32
  let arg13 : BitVec 32 := Scf.iv c0_i32_8 c1_i32 k0_t1
  let c16_i32_54 : BitVec 32 := 16#32
  let v50 : BitVec 32 := Scalar.muli arg13 c16_i32_54
  let v51 : BitVec 32 := Scalar.addi c0_i32_55 v50
  let v152 : Index := Scalar.indexCast v51
  ![9, v152.toNat]
def k0_off13 (k0_t1 : Fin k0_t1_loop.trips) : Fin 2 → Nat :=
  let c10_i32 : BitVec 32 := 10#32
  let v162 : Index := Scalar.indexCast c10_i32
  let c0_i32_55 : BitVec 32 := 0#32
  let c0_i32_8 : BitVec 32 := 0#32
  let c1_i32 : BitVec 32 := 1#32
  let arg13 : BitVec 32 := Scf.iv c0_i32_8 c1_i32 k0_t1
  let c16_i32_54 : BitVec 32 := 16#32
  let v50 : BitVec 32 := Scalar.muli arg13 c16_i32_54
  let v51 : BitVec 32 := Scalar.addi c0_i32_55 v50
  let v163 : Index := Scalar.indexCast v51
  ![10, v163.toNat]
def k0_off14 (k0_t1 : Fin k0_t1_loop.trips) : Fin 2 → Nat :=
  let c11_i32 : BitVec 32 := 11#32
  let v173 : Index := Scalar.indexCast c11_i32
  let c0_i32_55 : BitVec 32 := 0#32
  let c0_i32_8 : BitVec 32 := 0#32
  let c1_i32 : BitVec 32 := 1#32
  let arg13 : BitVec 32 := Scf.iv c0_i32_8 c1_i32 k0_t1
  let c16_i32_54 : BitVec 32 := 16#32
  let v50 : BitVec 32 := Scalar.muli arg13 c16_i32_54
  let v51 : BitVec 32 := Scalar.addi c0_i32_55 v50
  let v174 : Index := Scalar.indexCast v51
  ![11, v174.toNat]
def k0_off15 (k0_t1 : Fin k0_t1_loop.trips) : Fin 2 → Nat :=
  let c12_i32 : BitVec 32 := 12#32
  let v184 : Index := Scalar.indexCast c12_i32
  let c0_i32_55 : BitVec 32 := 0#32
  let c0_i32_8 : BitVec 32 := 0#32
  let c1_i32 : BitVec 32 := 1#32
  let arg13 : BitVec 32 := Scf.iv c0_i32_8 c1_i32 k0_t1
  let c16_i32_54 : BitVec 32 := 16#32
  let v50 : BitVec 32 := Scalar.muli arg13 c16_i32_54
  let v51 : BitVec 32 := Scalar.addi c0_i32_55 v50
  let v185 : Index := Scalar.indexCast v51
  ![12, v185.toNat]
def k0_off16 (k0_t1 : Fin k0_t1_loop.trips) : Fin 2 → Nat :=
  let c13_i32 : BitVec 32 := 13#32
  let v195 : Index := Scalar.indexCast c13_i32
  let c0_i32_55 : BitVec 32 := 0#32
  let c0_i32_8 : BitVec 32 := 0#32
  let c1_i32 : BitVec 32 := 1#32
  let arg13 : BitVec 32 := Scf.iv c0_i32_8 c1_i32 k0_t1
  let c16_i32_54 : BitVec 32 := 16#32
  let v50 : BitVec 32 := Scalar.muli arg13 c16_i32_54
  let v51 : BitVec 32 := Scalar.addi c0_i32_55 v50
  let v196 : Index := Scalar.indexCast v51
  ![13, v196.toNat]
def k0_off17 (k0_t1 : Fin k0_t1_loop.trips) : Fin 2 → Nat :=
  let c14_i32 : BitVec 32 := 14#32
  let v206 : Index := Scalar.indexCast c14_i32
  let c0_i32_55 : BitVec 32 := 0#32
  let c0_i32_8 : BitVec 32 := 0#32
  let c1_i32 : BitVec 32 := 1#32
  let arg13 : BitVec 32 := Scf.iv c0_i32_8 c1_i32 k0_t1
  let c16_i32_54 : BitVec 32 := 16#32
  let v50 : BitVec 32 := Scalar.muli arg13 c16_i32_54
  let v51 : BitVec 32 := Scalar.addi c0_i32_55 v50
  let v207 : Index := Scalar.indexCast v51
  ![14, v207.toNat]
def k0_off18 (k0_t1 : Fin k0_t1_loop.trips) : Fin 2 → Nat :=
  let c15_i32 : BitVec 32 := 15#32
  let v217 : Index := Scalar.indexCast c15_i32
  let c0_i32_55 : BitVec 32 := 0#32
  let c0_i32_8 : BitVec 32 := 0#32
  let c1_i32 : BitVec 32 := 1#32
  let arg13 : BitVec 32 := Scf.iv c0_i32_8 c1_i32 k0_t1
  let c16_i32_54 : BitVec 32 := 16#32
  let v50 : BitVec 32 := Scalar.muli arg13 c16_i32_54
  let v51 : BitVec 32 := Scalar.addi c0_i32_55 v50
  let v218 : Index := Scalar.indexCast v51
  ![15, v218.toNat]
def k0_off19 (i : grid0.Coords) (c0_i32_10 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_0 : BitVec 32 := 1024#32
  let v4 : BitVec 32 := Scalar.muli v1 c1024_i32_0
  let v14 : BitVec 32 := Scalar.addi v4 c0_i32_10
  let c0_i32_11 : BitVec 32 := 0#32
  ![v14.toNat, 0]
def k0_off19_at (r : Fin 4) : BitVec 32 :=
  if r.val < 2 then
    if r.val < 1 then
      0#32
    else
      16#32
  else
    if r.val < 3 then
      992#32
    else
      1008#32
@[reducible] def k0_t2_loop : Scf.Loop 32 :=
  let c0_i32_17 : BitVec 32 := 0#32
  let c128_i32_18 : BitVec 32 := 128#32
  let v22 : BitVec 32 := Scalar.addi c0_i32_17 c128_i32_18
  let c1_i32_19 : BitVec 32 := 1#32
  ⟨c0_i32_17, v22, c1_i32_19⟩
def k0_off20 (k0_t2 : Fin k0_t2_loop.trips) : Fin 2 → Nat :=
  let c0_i32_56 : BitVec 32 := 0#32
  let v52 : Index := Scalar.indexCast c0_i32_56
  let c0_i32_55 : BitVec 32 := 0#32
  let c0_i32_17 : BitVec 32 := 0#32
  let c1_i32_19 : BitVec 32 := 1#32
  let arg13 : BitVec 32 := Scf.iv c0_i32_17 c1_i32_19 k0_t2
  let c16_i32_54 : BitVec 32 := 16#32
  let v50 : BitVec 32 := Scalar.muli arg13 c16_i32_54
  let v51 : BitVec 32 := Scalar.addi c0_i32_55 v50
  let v53 : Index := Scalar.indexCast v51
  ![0, v53.toNat]
def k0_off21 (k0_t2 : Fin k0_t2_loop.trips) : Fin 2 → Nat :=
  let c1_i32_58 : BitVec 32 := 1#32
  let v63 : Index := Scalar.indexCast c1_i32_58
  let c0_i32_55 : BitVec 32 := 0#32
  let c0_i32_17 : BitVec 32 := 0#32
  let c1_i32_19 : BitVec 32 := 1#32
  let arg13 : BitVec 32 := Scf.iv c0_i32_17 c1_i32_19 k0_t2
  let c16_i32_54 : BitVec 32 := 16#32
  let v50 : BitVec 32 := Scalar.muli arg13 c16_i32_54
  let v51 : BitVec 32 := Scalar.addi c0_i32_55 v50
  let v64 : Index := Scalar.indexCast v51
  ![1, v64.toNat]
def k0_off22 (k0_t2 : Fin k0_t2_loop.trips) : Fin 2 → Nat :=
  let c2_i32_61 : BitVec 32 := 2#32
  let v74 : Index := Scalar.indexCast c2_i32_61
  let c0_i32_55 : BitVec 32 := 0#32
  let c0_i32_17 : BitVec 32 := 0#32
  let c1_i32_19 : BitVec 32 := 1#32
  let arg13 : BitVec 32 := Scf.iv c0_i32_17 c1_i32_19 k0_t2
  let c16_i32_54 : BitVec 32 := 16#32
  let v50 : BitVec 32 := Scalar.muli arg13 c16_i32_54
  let v51 : BitVec 32 := Scalar.addi c0_i32_55 v50
  let v75 : Index := Scalar.indexCast v51
  ![2, v75.toNat]
def k0_off23 (k0_t2 : Fin k0_t2_loop.trips) : Fin 2 → Nat :=
  let c3_i32 : BitVec 32 := 3#32
  let v85 : Index := Scalar.indexCast c3_i32
  let c0_i32_55 : BitVec 32 := 0#32
  let c0_i32_17 : BitVec 32 := 0#32
  let c1_i32_19 : BitVec 32 := 1#32
  let arg13 : BitVec 32 := Scf.iv c0_i32_17 c1_i32_19 k0_t2
  let c16_i32_54 : BitVec 32 := 16#32
  let v50 : BitVec 32 := Scalar.muli arg13 c16_i32_54
  let v51 : BitVec 32 := Scalar.addi c0_i32_55 v50
  let v86 : Index := Scalar.indexCast v51
  ![3, v86.toNat]
def k0_off24 (k0_t2 : Fin k0_t2_loop.trips) : Fin 2 → Nat :=
  let c4_i32 : BitVec 32 := 4#32
  let v96 : Index := Scalar.indexCast c4_i32
  let c0_i32_55 : BitVec 32 := 0#32
  let c0_i32_17 : BitVec 32 := 0#32
  let c1_i32_19 : BitVec 32 := 1#32
  let arg13 : BitVec 32 := Scf.iv c0_i32_17 c1_i32_19 k0_t2
  let c16_i32_54 : BitVec 32 := 16#32
  let v50 : BitVec 32 := Scalar.muli arg13 c16_i32_54
  let v51 : BitVec 32 := Scalar.addi c0_i32_55 v50
  let v97 : Index := Scalar.indexCast v51
  ![4, v97.toNat]
def k0_off25 (k0_t2 : Fin k0_t2_loop.trips) : Fin 2 → Nat :=
  let c5_i32 : BitVec 32 := 5#32
  let v107 : Index := Scalar.indexCast c5_i32
  let c0_i32_55 : BitVec 32 := 0#32
  let c0_i32_17 : BitVec 32 := 0#32
  let c1_i32_19 : BitVec 32 := 1#32
  let arg13 : BitVec 32 := Scf.iv c0_i32_17 c1_i32_19 k0_t2
  let c16_i32_54 : BitVec 32 := 16#32
  let v50 : BitVec 32 := Scalar.muli arg13 c16_i32_54
  let v51 : BitVec 32 := Scalar.addi c0_i32_55 v50
  let v108 : Index := Scalar.indexCast v51
  ![5, v108.toNat]
def k0_off26 (k0_t2 : Fin k0_t2_loop.trips) : Fin 2 → Nat :=
  let c6_i32 : BitVec 32 := 6#32
  let v118 : Index := Scalar.indexCast c6_i32
  let c0_i32_55 : BitVec 32 := 0#32
  let c0_i32_17 : BitVec 32 := 0#32
  let c1_i32_19 : BitVec 32 := 1#32
  let arg13 : BitVec 32 := Scf.iv c0_i32_17 c1_i32_19 k0_t2
  let c16_i32_54 : BitVec 32 := 16#32
  let v50 : BitVec 32 := Scalar.muli arg13 c16_i32_54
  let v51 : BitVec 32 := Scalar.addi c0_i32_55 v50
  let v119 : Index := Scalar.indexCast v51
  ![6, v119.toNat]
def k0_off27 (k0_t2 : Fin k0_t2_loop.trips) : Fin 2 → Nat :=
  let c7_i32 : BitVec 32 := 7#32
  let v129 : Index := Scalar.indexCast c7_i32
  let c0_i32_55 : BitVec 32 := 0#32
  let c0_i32_17 : BitVec 32 := 0#32
  let c1_i32_19 : BitVec 32 := 1#32
  let arg13 : BitVec 32 := Scf.iv c0_i32_17 c1_i32_19 k0_t2
  let c16_i32_54 : BitVec 32 := 16#32
  let v50 : BitVec 32 := Scalar.muli arg13 c16_i32_54
  let v51 : BitVec 32 := Scalar.addi c0_i32_55 v50
  let v130 : Index := Scalar.indexCast v51
  ![7, v130.toNat]
def k0_off28 (k0_t2 : Fin k0_t2_loop.trips) : Fin 2 → Nat :=
  let c8_i32 : BitVec 32 := 8#32
  let v140 : Index := Scalar.indexCast c8_i32
  let c0_i32_55 : BitVec 32 := 0#32
  let c0_i32_17 : BitVec 32 := 0#32
  let c1_i32_19 : BitVec 32 := 1#32
  let arg13 : BitVec 32 := Scf.iv c0_i32_17 c1_i32_19 k0_t2
  let c16_i32_54 : BitVec 32 := 16#32
  let v50 : BitVec 32 := Scalar.muli arg13 c16_i32_54
  let v51 : BitVec 32 := Scalar.addi c0_i32_55 v50
  let v141 : Index := Scalar.indexCast v51
  ![8, v141.toNat]
def k0_off29 (k0_t2 : Fin k0_t2_loop.trips) : Fin 2 → Nat :=
  let c9_i32 : BitVec 32 := 9#32
  let v151 : Index := Scalar.indexCast c9_i32
  let c0_i32_55 : BitVec 32 := 0#32
  let c0_i32_17 : BitVec 32 := 0#32
  let c1_i32_19 : BitVec 32 := 1#32
  let arg13 : BitVec 32 := Scf.iv c0_i32_17 c1_i32_19 k0_t2
  let c16_i32_54 : BitVec 32 := 16#32
  let v50 : BitVec 32 := Scalar.muli arg13 c16_i32_54
  let v51 : BitVec 32 := Scalar.addi c0_i32_55 v50
  let v152 : Index := Scalar.indexCast v51
  ![9, v152.toNat]
def k0_off30 (k0_t2 : Fin k0_t2_loop.trips) : Fin 2 → Nat :=
  let c10_i32 : BitVec 32 := 10#32
  let v162 : Index := Scalar.indexCast c10_i32
  let c0_i32_55 : BitVec 32 := 0#32
  let c0_i32_17 : BitVec 32 := 0#32
  let c1_i32_19 : BitVec 32 := 1#32
  let arg13 : BitVec 32 := Scf.iv c0_i32_17 c1_i32_19 k0_t2
  let c16_i32_54 : BitVec 32 := 16#32
  let v50 : BitVec 32 := Scalar.muli arg13 c16_i32_54
  let v51 : BitVec 32 := Scalar.addi c0_i32_55 v50
  let v163 : Index := Scalar.indexCast v51
  ![10, v163.toNat]
def k0_off31 (k0_t2 : Fin k0_t2_loop.trips) : Fin 2 → Nat :=
  let c11_i32 : BitVec 32 := 11#32
  let v173 : Index := Scalar.indexCast c11_i32
  let c0_i32_55 : BitVec 32 := 0#32
  let c0_i32_17 : BitVec 32 := 0#32
  let c1_i32_19 : BitVec 32 := 1#32
  let arg13 : BitVec 32 := Scf.iv c0_i32_17 c1_i32_19 k0_t2
  let c16_i32_54 : BitVec 32 := 16#32
  let v50 : BitVec 32 := Scalar.muli arg13 c16_i32_54
  let v51 : BitVec 32 := Scalar.addi c0_i32_55 v50
  let v174 : Index := Scalar.indexCast v51
  ![11, v174.toNat]
def k0_off32 (k0_t2 : Fin k0_t2_loop.trips) : Fin 2 → Nat :=
  let c12_i32 : BitVec 32 := 12#32
  let v184 : Index := Scalar.indexCast c12_i32
  let c0_i32_55 : BitVec 32 := 0#32
  let c0_i32_17 : BitVec 32 := 0#32
  let c1_i32_19 : BitVec 32 := 1#32
  let arg13 : BitVec 32 := Scf.iv c0_i32_17 c1_i32_19 k0_t2
  let c16_i32_54 : BitVec 32 := 16#32
  let v50 : BitVec 32 := Scalar.muli arg13 c16_i32_54
  let v51 : BitVec 32 := Scalar.addi c0_i32_55 v50
  let v185 : Index := Scalar.indexCast v51
  ![12, v185.toNat]
def k0_off33 (k0_t2 : Fin k0_t2_loop.trips) : Fin 2 → Nat :=
  let c13_i32 : BitVec 32 := 13#32
  let v195 : Index := Scalar.indexCast c13_i32
  let c0_i32_55 : BitVec 32 := 0#32
  let c0_i32_17 : BitVec 32 := 0#32
  let c1_i32_19 : BitVec 32 := 1#32
  let arg13 : BitVec 32 := Scf.iv c0_i32_17 c1_i32_19 k0_t2
  let c16_i32_54 : BitVec 32 := 16#32
  let v50 : BitVec 32 := Scalar.muli arg13 c16_i32_54
  let v51 : BitVec 32 := Scalar.addi c0_i32_55 v50
  let v196 : Index := Scalar.indexCast v51
  ![13, v196.toNat]
def k0_off34 (k0_t2 : Fin k0_t2_loop.trips) : Fin 2 → Nat :=
  let c14_i32 : BitVec 32 := 14#32
  let v206 : Index := Scalar.indexCast c14_i32
  let c0_i32_55 : BitVec 32 := 0#32
  let c0_i32_17 : BitVec 32 := 0#32
  let c1_i32_19 : BitVec 32 := 1#32
  let arg13 : BitVec 32 := Scf.iv c0_i32_17 c1_i32_19 k0_t2
  let c16_i32_54 : BitVec 32 := 16#32
  let v50 : BitVec 32 := Scalar.muli arg13 c16_i32_54
  let v51 : BitVec 32 := Scalar.addi c0_i32_55 v50
  let v207 : Index := Scalar.indexCast v51
  ![14, v207.toNat]
def k0_off35 (k0_t2 : Fin k0_t2_loop.trips) : Fin 2 → Nat :=
  let c15_i32 : BitVec 32 := 15#32
  let v217 : Index := Scalar.indexCast c15_i32
  let c0_i32_55 : BitVec 32 := 0#32
  let c0_i32_17 : BitVec 32 := 0#32
  let c1_i32_19 : BitVec 32 := 1#32
  let arg13 : BitVec 32 := Scf.iv c0_i32_17 c1_i32_19 k0_t2
  let c16_i32_54 : BitVec 32 := 16#32
  let v50 : BitVec 32 := Scalar.muli arg13 c16_i32_54
  let v51 : BitVec 32 := Scalar.addi c0_i32_55 v50
  let v218 : Index := Scalar.indexCast v51
  ![15, v218.toNat]
@[reducible] def k0_t3_loop : Scf.Loop 32 :=
  let c0_i32_24 : BitVec 32 := 0#32
  let c20_i32 : BitVec 32 := 20#32
  let v26 : BitVec 32 := Scalar.addi c0_i32_24 c20_i32
  let c1_i32_25 : BitVec 32 := 1#32
  ⟨c0_i32_24, v26, c1_i32_25⟩
def k0_off36 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_0 : BitVec 32 := 1024#32
  let v4 : BitVec 32 := Scalar.muli v1 c1024_i32_0
  let c0_i32_57 : BitVec 32 := 0#32
  ![v4.toNat, 0]
def k0_off37 (i : grid0.Coords) (k0_t3 : Fin k0_t3_loop.trips) (c0_i32_56 : BitVec 32) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let c2_i32_55 : BitVec 32 := 2#32
  let c0_i32_54 : BitVec 32 := 0#32
  let c0_i32_24 : BitVec 32 := 0#32
  let c1_i32_25 : BitVec 32 := 1#32
  let arg13 : BitVec 32 := Scf.iv c0_i32_24 c1_i32_25 k0_t3
  let c3_i32 : BitVec 32 := 3#32
  let v50 : BitVec 32 := Scalar.muli arg13 c3_i32
  let v51 : BitVec 32 := Scalar.addi c0_i32_54 v50
  let v52 : BitVec 32 := Scalar.addi c2_i32_55 v51
  let v53 : BitVec 32 := Scalar.addi v52 c0_i32_56
  let c1_i32_59 : BitVec 32 := 1#32
  let v56 : BitVec 32 := Scalar.addi v53 c1_i32_59
  let c16_i32_60 : BitVec 32 := 16#32
  let v57 : BitVec 32 := Scalar.muli v56 c16_i32_60
  let v58 : BitVec 32 := Scalar.addi v3 v57
  let c0_i32_61 : BitVec 32 := 0#32
  ![v58.toNat, 0]
def k0_off38 (i : grid0.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let c0_i32_63 : BitVec 32 := 0#32
  ![v3.toNat, 0]
@[reducible] def k0_t4_loop : Scf.Loop 32 :=
  let c0_i32_65 : BitVec 32 := 0#32
  let c128_i32_66 : BitVec 32 := 128#32
  let v63 : BitVec 32 := Scalar.addi c0_i32_65 c128_i32_66
  let c1_i32_67 : BitVec 32 := 1#32
  ⟨c0_i32_65, v63, c1_i32_67⟩
def k0_off39 (k0_t4 : Fin k0_t4_loop.trips) : Fin 2 → Nat :=
  let c0_i32_108 : BitVec 32 := 0#32
  let v102 : Index := Scalar.indexCast c0_i32_108
  let c0_i32_107 : BitVec 32 := 0#32
  let c0_i32_65 : BitVec 32 := 0#32
  let c1_i32_67 : BitVec 32 := 1#32
  let arg14 : BitVec 32 := Scf.iv c0_i32_65 c1_i32_67 k0_t4
  let c16_i32_106 : BitVec 32 := 16#32
  let v100 : BitVec 32 := Scalar.muli arg14 c16_i32_106
  let v101 : BitVec 32 := Scalar.addi c0_i32_107 v100
  let v103 : Index := Scalar.indexCast v101
  ![0, v103.toNat]
def k0_off40 (k0_t4 : Fin k0_t4_loop.trips) : Fin 2 → Nat :=
  let c1_i32_110 : BitVec 32 := 1#32
  let v113 : Index := Scalar.indexCast c1_i32_110
  let c0_i32_107 : BitVec 32 := 0#32
  let c0_i32_65 : BitVec 32 := 0#32
  let c1_i32_67 : BitVec 32 := 1#32
  let arg14 : BitVec 32 := Scf.iv c0_i32_65 c1_i32_67 k0_t4
  let c16_i32_106 : BitVec 32 := 16#32
  let v100 : BitVec 32 := Scalar.muli arg14 c16_i32_106
  let v101 : BitVec 32 := Scalar.addi c0_i32_107 v100
  let v114 : Index := Scalar.indexCast v101
  ![1, v114.toNat]
def k0_off41 (k0_t4 : Fin k0_t4_loop.trips) : Fin 2 → Nat :=
  let c2_i32_113 : BitVec 32 := 2#32
  let v124 : Index := Scalar.indexCast c2_i32_113
  let c0_i32_107 : BitVec 32 := 0#32
  let c0_i32_65 : BitVec 32 := 0#32
  let c1_i32_67 : BitVec 32 := 1#32
  let arg14 : BitVec 32 := Scf.iv c0_i32_65 c1_i32_67 k0_t4
  let c16_i32_106 : BitVec 32 := 16#32
  let v100 : BitVec 32 := Scalar.muli arg14 c16_i32_106
  let v101 : BitVec 32 := Scalar.addi c0_i32_107 v100
  let v125 : Index := Scalar.indexCast v101
  ![2, v125.toNat]
def k0_off42 (k0_t4 : Fin k0_t4_loop.trips) : Fin 2 → Nat :=
  let c3_i32_116 : BitVec 32 := 3#32
  let v135 : Index := Scalar.indexCast c3_i32_116
  let c0_i32_107 : BitVec 32 := 0#32
  let c0_i32_65 : BitVec 32 := 0#32
  let c1_i32_67 : BitVec 32 := 1#32
  let arg14 : BitVec 32 := Scf.iv c0_i32_65 c1_i32_67 k0_t4
  let c16_i32_106 : BitVec 32 := 16#32
  let v100 : BitVec 32 := Scalar.muli arg14 c16_i32_106
  let v101 : BitVec 32 := Scalar.addi c0_i32_107 v100
  let v136 : Index := Scalar.indexCast v101
  ![3, v136.toNat]
def k0_off43 (k0_t4 : Fin k0_t4_loop.trips) : Fin 2 → Nat :=
  let c4_i32 : BitVec 32 := 4#32
  let v146 : Index := Scalar.indexCast c4_i32
  let c0_i32_107 : BitVec 32 := 0#32
  let c0_i32_65 : BitVec 32 := 0#32
  let c1_i32_67 : BitVec 32 := 1#32
  let arg14 : BitVec 32 := Scf.iv c0_i32_65 c1_i32_67 k0_t4
  let c16_i32_106 : BitVec 32 := 16#32
  let v100 : BitVec 32 := Scalar.muli arg14 c16_i32_106
  let v101 : BitVec 32 := Scalar.addi c0_i32_107 v100
  let v147 : Index := Scalar.indexCast v101
  ![4, v147.toNat]
def k0_off44 (k0_t4 : Fin k0_t4_loop.trips) : Fin 2 → Nat :=
  let c5_i32 : BitVec 32 := 5#32
  let v157 : Index := Scalar.indexCast c5_i32
  let c0_i32_107 : BitVec 32 := 0#32
  let c0_i32_65 : BitVec 32 := 0#32
  let c1_i32_67 : BitVec 32 := 1#32
  let arg14 : BitVec 32 := Scf.iv c0_i32_65 c1_i32_67 k0_t4
  let c16_i32_106 : BitVec 32 := 16#32
  let v100 : BitVec 32 := Scalar.muli arg14 c16_i32_106
  let v101 : BitVec 32 := Scalar.addi c0_i32_107 v100
  let v158 : Index := Scalar.indexCast v101
  ![5, v158.toNat]
def k0_off45 (k0_t4 : Fin k0_t4_loop.trips) : Fin 2 → Nat :=
  let c6_i32 : BitVec 32 := 6#32
  let v168 : Index := Scalar.indexCast c6_i32
  let c0_i32_107 : BitVec 32 := 0#32
  let c0_i32_65 : BitVec 32 := 0#32
  let c1_i32_67 : BitVec 32 := 1#32
  let arg14 : BitVec 32 := Scf.iv c0_i32_65 c1_i32_67 k0_t4
  let c16_i32_106 : BitVec 32 := 16#32
  let v100 : BitVec 32 := Scalar.muli arg14 c16_i32_106
  let v101 : BitVec 32 := Scalar.addi c0_i32_107 v100
  let v169 : Index := Scalar.indexCast v101
  ![6, v169.toNat]
def k0_off46 (k0_t4 : Fin k0_t4_loop.trips) : Fin 2 → Nat :=
  let c7_i32 : BitVec 32 := 7#32
  let v179 : Index := Scalar.indexCast c7_i32
  let c0_i32_107 : BitVec 32 := 0#32
  let c0_i32_65 : BitVec 32 := 0#32
  let c1_i32_67 : BitVec 32 := 1#32
  let arg14 : BitVec 32 := Scf.iv c0_i32_65 c1_i32_67 k0_t4
  let c16_i32_106 : BitVec 32 := 16#32
  let v100 : BitVec 32 := Scalar.muli arg14 c16_i32_106
  let v101 : BitVec 32 := Scalar.addi c0_i32_107 v100
  let v180 : Index := Scalar.indexCast v101
  ![7, v180.toNat]
def k0_off47 (k0_t4 : Fin k0_t4_loop.trips) : Fin 2 → Nat :=
  let c8_i32 : BitVec 32 := 8#32
  let v190 : Index := Scalar.indexCast c8_i32
  let c0_i32_107 : BitVec 32 := 0#32
  let c0_i32_65 : BitVec 32 := 0#32
  let c1_i32_67 : BitVec 32 := 1#32
  let arg14 : BitVec 32 := Scf.iv c0_i32_65 c1_i32_67 k0_t4
  let c16_i32_106 : BitVec 32 := 16#32
  let v100 : BitVec 32 := Scalar.muli arg14 c16_i32_106
  let v101 : BitVec 32 := Scalar.addi c0_i32_107 v100
  let v191 : Index := Scalar.indexCast v101
  ![8, v191.toNat]
def k0_off48 (k0_t4 : Fin k0_t4_loop.trips) : Fin 2 → Nat :=
  let c9_i32 : BitVec 32 := 9#32
  let v201 : Index := Scalar.indexCast c9_i32
  let c0_i32_107 : BitVec 32 := 0#32
  let c0_i32_65 : BitVec 32 := 0#32
  let c1_i32_67 : BitVec 32 := 1#32
  let arg14 : BitVec 32 := Scf.iv c0_i32_65 c1_i32_67 k0_t4
  let c16_i32_106 : BitVec 32 := 16#32
  let v100 : BitVec 32 := Scalar.muli arg14 c16_i32_106
  let v101 : BitVec 32 := Scalar.addi c0_i32_107 v100
  let v202 : Index := Scalar.indexCast v101
  ![9, v202.toNat]
def k0_off49 (k0_t4 : Fin k0_t4_loop.trips) : Fin 2 → Nat :=
  let c10_i32 : BitVec 32 := 10#32
  let v212 : Index := Scalar.indexCast c10_i32
  let c0_i32_107 : BitVec 32 := 0#32
  let c0_i32_65 : BitVec 32 := 0#32
  let c1_i32_67 : BitVec 32 := 1#32
  let arg14 : BitVec 32 := Scf.iv c0_i32_65 c1_i32_67 k0_t4
  let c16_i32_106 : BitVec 32 := 16#32
  let v100 : BitVec 32 := Scalar.muli arg14 c16_i32_106
  let v101 : BitVec 32 := Scalar.addi c0_i32_107 v100
  let v213 : Index := Scalar.indexCast v101
  ![10, v213.toNat]
def k0_off50 (k0_t4 : Fin k0_t4_loop.trips) : Fin 2 → Nat :=
  let c11_i32 : BitVec 32 := 11#32
  let v223 : Index := Scalar.indexCast c11_i32
  let c0_i32_107 : BitVec 32 := 0#32
  let c0_i32_65 : BitVec 32 := 0#32
  let c1_i32_67 : BitVec 32 := 1#32
  let arg14 : BitVec 32 := Scf.iv c0_i32_65 c1_i32_67 k0_t4
  let c16_i32_106 : BitVec 32 := 16#32
  let v100 : BitVec 32 := Scalar.muli arg14 c16_i32_106
  let v101 : BitVec 32 := Scalar.addi c0_i32_107 v100
  let v224 : Index := Scalar.indexCast v101
  ![11, v224.toNat]
def k0_off51 (k0_t4 : Fin k0_t4_loop.trips) : Fin 2 → Nat :=
  let c12_i32 : BitVec 32 := 12#32
  let v234 : Index := Scalar.indexCast c12_i32
  let c0_i32_107 : BitVec 32 := 0#32
  let c0_i32_65 : BitVec 32 := 0#32
  let c1_i32_67 : BitVec 32 := 1#32
  let arg14 : BitVec 32 := Scf.iv c0_i32_65 c1_i32_67 k0_t4
  let c16_i32_106 : BitVec 32 := 16#32
  let v100 : BitVec 32 := Scalar.muli arg14 c16_i32_106
  let v101 : BitVec 32 := Scalar.addi c0_i32_107 v100
  let v235 : Index := Scalar.indexCast v101
  ![12, v235.toNat]
def k0_off52 (k0_t4 : Fin k0_t4_loop.trips) : Fin 2 → Nat :=
  let c13_i32 : BitVec 32 := 13#32
  let v245 : Index := Scalar.indexCast c13_i32
  let c0_i32_107 : BitVec 32 := 0#32
  let c0_i32_65 : BitVec 32 := 0#32
  let c1_i32_67 : BitVec 32 := 1#32
  let arg14 : BitVec 32 := Scf.iv c0_i32_65 c1_i32_67 k0_t4
  let c16_i32_106 : BitVec 32 := 16#32
  let v100 : BitVec 32 := Scalar.muli arg14 c16_i32_106
  let v101 : BitVec 32 := Scalar.addi c0_i32_107 v100
  let v246 : Index := Scalar.indexCast v101
  ![13, v246.toNat]
def k0_off53 (k0_t4 : Fin k0_t4_loop.trips) : Fin 2 → Nat :=
  let c14_i32 : BitVec 32 := 14#32
  let v256 : Index := Scalar.indexCast c14_i32
  let c0_i32_107 : BitVec 32 := 0#32
  let c0_i32_65 : BitVec 32 := 0#32
  let c1_i32_67 : BitVec 32 := 1#32
  let arg14 : BitVec 32 := Scf.iv c0_i32_65 c1_i32_67 k0_t4
  let c16_i32_106 : BitVec 32 := 16#32
  let v100 : BitVec 32 := Scalar.muli arg14 c16_i32_106
  let v101 : BitVec 32 := Scalar.addi c0_i32_107 v100
  let v257 : Index := Scalar.indexCast v101
  ![14, v257.toNat]
def k0_off54 (k0_t4 : Fin k0_t4_loop.trips) : Fin 2 → Nat :=
  let c15_i32 : BitVec 32 := 15#32
  let v267 : Index := Scalar.indexCast c15_i32
  let c0_i32_107 : BitVec 32 := 0#32
  let c0_i32_65 : BitVec 32 := 0#32
  let c1_i32_67 : BitVec 32 := 1#32
  let arg14 : BitVec 32 := Scf.iv c0_i32_65 c1_i32_67 k0_t4
  let c16_i32_106 : BitVec 32 := 16#32
  let v100 : BitVec 32 := Scalar.muli arg14 c16_i32_106
  let v101 : BitVec 32 := Scalar.addi c0_i32_107 v100
  let v268 : Index := Scalar.indexCast v101
  ![15, v268.toNat]
def k0_off55 (i : grid0.Coords) (k0_t3 : Fin k0_t3_loop.trips) (c0_i32_56 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_0 : BitVec 32 := 1024#32
  let v4 : BitVec 32 := Scalar.muli v1 c1024_i32_0
  let c2_i32_55 : BitVec 32 := 2#32
  let c0_i32_54 : BitVec 32 := 0#32
  let c0_i32_24 : BitVec 32 := 0#32
  let c1_i32_25 : BitVec 32 := 1#32
  let arg13 : BitVec 32 := Scf.iv c0_i32_24 c1_i32_25 k0_t3
  let c3_i32 : BitVec 32 := 3#32
  let v50 : BitVec 32 := Scalar.muli arg13 c3_i32
  let v51 : BitVec 32 := Scalar.addi c0_i32_54 v50
  let v52 : BitVec 32 := Scalar.addi c2_i32_55 v51
  let v53 : BitVec 32 := Scalar.addi v52 c0_i32_56
  let c16_i32_69 : BitVec 32 := 16#32
  let v64 : BitVec 32 := Scalar.muli v53 c16_i32_69
  let v65 : BitVec 32 := Scalar.addi v4 v64
  let c0_i32_70 : BitVec 32 := 0#32
  ![v65.toNat, 0]
@[reducible] def k0_t5_loop : Scf.Loop 32 :=
  let c0_i32_82 : BitVec 32 := 0#32
  let c128_i32_83 : BitVec 32 := 128#32
  let v79 : BitVec 32 := Scalar.addi c0_i32_82 c128_i32_83
  let c1_i32_84 : BitVec 32 := 1#32
  ⟨c0_i32_82, v79, c1_i32_84⟩
def k0_off56 (k0_t5 : Fin k0_t5_loop.trips) : Fin 2 → Nat :=
  let c0_i32_108 : BitVec 32 := 0#32
  let v102 : Index := Scalar.indexCast c0_i32_108
  let c0_i32_107 : BitVec 32 := 0#32
  let c0_i32_82 : BitVec 32 := 0#32
  let c1_i32_84 : BitVec 32 := 1#32
  let arg14 : BitVec 32 := Scf.iv c0_i32_82 c1_i32_84 k0_t5
  let c16_i32_106 : BitVec 32 := 16#32
  let v100 : BitVec 32 := Scalar.muli arg14 c16_i32_106
  let v101 : BitVec 32 := Scalar.addi c0_i32_107 v100
  let v103 : Index := Scalar.indexCast v101
  ![0, v103.toNat]
def k0_off57 (k0_t5 : Fin k0_t5_loop.trips) : Fin 2 → Nat :=
  let c1_i32_110 : BitVec 32 := 1#32
  let v113 : Index := Scalar.indexCast c1_i32_110
  let c0_i32_107 : BitVec 32 := 0#32
  let c0_i32_82 : BitVec 32 := 0#32
  let c1_i32_84 : BitVec 32 := 1#32
  let arg14 : BitVec 32 := Scf.iv c0_i32_82 c1_i32_84 k0_t5
  let c16_i32_106 : BitVec 32 := 16#32
  let v100 : BitVec 32 := Scalar.muli arg14 c16_i32_106
  let v101 : BitVec 32 := Scalar.addi c0_i32_107 v100
  let v114 : Index := Scalar.indexCast v101
  ![1, v114.toNat]
def k0_off58 (k0_t5 : Fin k0_t5_loop.trips) : Fin 2 → Nat :=
  let c2_i32_113 : BitVec 32 := 2#32
  let v124 : Index := Scalar.indexCast c2_i32_113
  let c0_i32_107 : BitVec 32 := 0#32
  let c0_i32_82 : BitVec 32 := 0#32
  let c1_i32_84 : BitVec 32 := 1#32
  let arg14 : BitVec 32 := Scf.iv c0_i32_82 c1_i32_84 k0_t5
  let c16_i32_106 : BitVec 32 := 16#32
  let v100 : BitVec 32 := Scalar.muli arg14 c16_i32_106
  let v101 : BitVec 32 := Scalar.addi c0_i32_107 v100
  let v125 : Index := Scalar.indexCast v101
  ![2, v125.toNat]
def k0_off59 (k0_t5 : Fin k0_t5_loop.trips) : Fin 2 → Nat :=
  let c3_i32_116 : BitVec 32 := 3#32
  let v135 : Index := Scalar.indexCast c3_i32_116
  let c0_i32_107 : BitVec 32 := 0#32
  let c0_i32_82 : BitVec 32 := 0#32
  let c1_i32_84 : BitVec 32 := 1#32
  let arg14 : BitVec 32 := Scf.iv c0_i32_82 c1_i32_84 k0_t5
  let c16_i32_106 : BitVec 32 := 16#32
  let v100 : BitVec 32 := Scalar.muli arg14 c16_i32_106
  let v101 : BitVec 32 := Scalar.addi c0_i32_107 v100
  let v136 : Index := Scalar.indexCast v101
  ![3, v136.toNat]
def k0_off60 (k0_t5 : Fin k0_t5_loop.trips) : Fin 2 → Nat :=
  let c4_i32 : BitVec 32 := 4#32
  let v146 : Index := Scalar.indexCast c4_i32
  let c0_i32_107 : BitVec 32 := 0#32
  let c0_i32_82 : BitVec 32 := 0#32
  let c1_i32_84 : BitVec 32 := 1#32
  let arg14 : BitVec 32 := Scf.iv c0_i32_82 c1_i32_84 k0_t5
  let c16_i32_106 : BitVec 32 := 16#32
  let v100 : BitVec 32 := Scalar.muli arg14 c16_i32_106
  let v101 : BitVec 32 := Scalar.addi c0_i32_107 v100
  let v147 : Index := Scalar.indexCast v101
  ![4, v147.toNat]
def k0_off61 (k0_t5 : Fin k0_t5_loop.trips) : Fin 2 → Nat :=
  let c5_i32 : BitVec 32 := 5#32
  let v157 : Index := Scalar.indexCast c5_i32
  let c0_i32_107 : BitVec 32 := 0#32
  let c0_i32_82 : BitVec 32 := 0#32
  let c1_i32_84 : BitVec 32 := 1#32
  let arg14 : BitVec 32 := Scf.iv c0_i32_82 c1_i32_84 k0_t5
  let c16_i32_106 : BitVec 32 := 16#32
  let v100 : BitVec 32 := Scalar.muli arg14 c16_i32_106
  let v101 : BitVec 32 := Scalar.addi c0_i32_107 v100
  let v158 : Index := Scalar.indexCast v101
  ![5, v158.toNat]
def k0_off62 (k0_t5 : Fin k0_t5_loop.trips) : Fin 2 → Nat :=
  let c6_i32 : BitVec 32 := 6#32
  let v168 : Index := Scalar.indexCast c6_i32
  let c0_i32_107 : BitVec 32 := 0#32
  let c0_i32_82 : BitVec 32 := 0#32
  let c1_i32_84 : BitVec 32 := 1#32
  let arg14 : BitVec 32 := Scf.iv c0_i32_82 c1_i32_84 k0_t5
  let c16_i32_106 : BitVec 32 := 16#32
  let v100 : BitVec 32 := Scalar.muli arg14 c16_i32_106
  let v101 : BitVec 32 := Scalar.addi c0_i32_107 v100
  let v169 : Index := Scalar.indexCast v101
  ![6, v169.toNat]
def k0_off63 (k0_t5 : Fin k0_t5_loop.trips) : Fin 2 → Nat :=
  let c7_i32 : BitVec 32 := 7#32
  let v179 : Index := Scalar.indexCast c7_i32
  let c0_i32_107 : BitVec 32 := 0#32
  let c0_i32_82 : BitVec 32 := 0#32
  let c1_i32_84 : BitVec 32 := 1#32
  let arg14 : BitVec 32 := Scf.iv c0_i32_82 c1_i32_84 k0_t5
  let c16_i32_106 : BitVec 32 := 16#32
  let v100 : BitVec 32 := Scalar.muli arg14 c16_i32_106
  let v101 : BitVec 32 := Scalar.addi c0_i32_107 v100
  let v180 : Index := Scalar.indexCast v101
  ![7, v180.toNat]
def k0_off64 (k0_t5 : Fin k0_t5_loop.trips) : Fin 2 → Nat :=
  let c8_i32 : BitVec 32 := 8#32
  let v190 : Index := Scalar.indexCast c8_i32
  let c0_i32_107 : BitVec 32 := 0#32
  let c0_i32_82 : BitVec 32 := 0#32
  let c1_i32_84 : BitVec 32 := 1#32
  let arg14 : BitVec 32 := Scf.iv c0_i32_82 c1_i32_84 k0_t5
  let c16_i32_106 : BitVec 32 := 16#32
  let v100 : BitVec 32 := Scalar.muli arg14 c16_i32_106
  let v101 : BitVec 32 := Scalar.addi c0_i32_107 v100
  let v191 : Index := Scalar.indexCast v101
  ![8, v191.toNat]
def k0_off65 (k0_t5 : Fin k0_t5_loop.trips) : Fin 2 → Nat :=
  let c9_i32 : BitVec 32 := 9#32
  let v201 : Index := Scalar.indexCast c9_i32
  let c0_i32_107 : BitVec 32 := 0#32
  let c0_i32_82 : BitVec 32 := 0#32
  let c1_i32_84 : BitVec 32 := 1#32
  let arg14 : BitVec 32 := Scf.iv c0_i32_82 c1_i32_84 k0_t5
  let c16_i32_106 : BitVec 32 := 16#32
  let v100 : BitVec 32 := Scalar.muli arg14 c16_i32_106
  let v101 : BitVec 32 := Scalar.addi c0_i32_107 v100
  let v202 : Index := Scalar.indexCast v101
  ![9, v202.toNat]
def k0_off66 (k0_t5 : Fin k0_t5_loop.trips) : Fin 2 → Nat :=
  let c10_i32 : BitVec 32 := 10#32
  let v212 : Index := Scalar.indexCast c10_i32
  let c0_i32_107 : BitVec 32 := 0#32
  let c0_i32_82 : BitVec 32 := 0#32
  let c1_i32_84 : BitVec 32 := 1#32
  let arg14 : BitVec 32 := Scf.iv c0_i32_82 c1_i32_84 k0_t5
  let c16_i32_106 : BitVec 32 := 16#32
  let v100 : BitVec 32 := Scalar.muli arg14 c16_i32_106
  let v101 : BitVec 32 := Scalar.addi c0_i32_107 v100
  let v213 : Index := Scalar.indexCast v101
  ![10, v213.toNat]
def k0_off67 (k0_t5 : Fin k0_t5_loop.trips) : Fin 2 → Nat :=
  let c11_i32 : BitVec 32 := 11#32
  let v223 : Index := Scalar.indexCast c11_i32
  let c0_i32_107 : BitVec 32 := 0#32
  let c0_i32_82 : BitVec 32 := 0#32
  let c1_i32_84 : BitVec 32 := 1#32
  let arg14 : BitVec 32 := Scf.iv c0_i32_82 c1_i32_84 k0_t5
  let c16_i32_106 : BitVec 32 := 16#32
  let v100 : BitVec 32 := Scalar.muli arg14 c16_i32_106
  let v101 : BitVec 32 := Scalar.addi c0_i32_107 v100
  let v224 : Index := Scalar.indexCast v101
  ![11, v224.toNat]
def k0_off68 (k0_t5 : Fin k0_t5_loop.trips) : Fin 2 → Nat :=
  let c12_i32 : BitVec 32 := 12#32
  let v234 : Index := Scalar.indexCast c12_i32
  let c0_i32_107 : BitVec 32 := 0#32
  let c0_i32_82 : BitVec 32 := 0#32
  let c1_i32_84 : BitVec 32 := 1#32
  let arg14 : BitVec 32 := Scf.iv c0_i32_82 c1_i32_84 k0_t5
  let c16_i32_106 : BitVec 32 := 16#32
  let v100 : BitVec 32 := Scalar.muli arg14 c16_i32_106
  let v101 : BitVec 32 := Scalar.addi c0_i32_107 v100
  let v235 : Index := Scalar.indexCast v101
  ![12, v235.toNat]
def k0_off69 (k0_t5 : Fin k0_t5_loop.trips) : Fin 2 → Nat :=
  let c13_i32 : BitVec 32 := 13#32
  let v245 : Index := Scalar.indexCast c13_i32
  let c0_i32_107 : BitVec 32 := 0#32
  let c0_i32_82 : BitVec 32 := 0#32
  let c1_i32_84 : BitVec 32 := 1#32
  let arg14 : BitVec 32 := Scf.iv c0_i32_82 c1_i32_84 k0_t5
  let c16_i32_106 : BitVec 32 := 16#32
  let v100 : BitVec 32 := Scalar.muli arg14 c16_i32_106
  let v101 : BitVec 32 := Scalar.addi c0_i32_107 v100
  let v246 : Index := Scalar.indexCast v101
  ![13, v246.toNat]
def k0_off70 (k0_t5 : Fin k0_t5_loop.trips) : Fin 2 → Nat :=
  let c14_i32 : BitVec 32 := 14#32
  let v256 : Index := Scalar.indexCast c14_i32
  let c0_i32_107 : BitVec 32 := 0#32
  let c0_i32_82 : BitVec 32 := 0#32
  let c1_i32_84 : BitVec 32 := 1#32
  let arg14 : BitVec 32 := Scf.iv c0_i32_82 c1_i32_84 k0_t5
  let c16_i32_106 : BitVec 32 := 16#32
  let v100 : BitVec 32 := Scalar.muli arg14 c16_i32_106
  let v101 : BitVec 32 := Scalar.addi c0_i32_107 v100
  let v257 : Index := Scalar.indexCast v101
  ![14, v257.toNat]
def k0_off71 (k0_t5 : Fin k0_t5_loop.trips) : Fin 2 → Nat :=
  let c15_i32 : BitVec 32 := 15#32
  let v267 : Index := Scalar.indexCast c15_i32
  let c0_i32_107 : BitVec 32 := 0#32
  let c0_i32_82 : BitVec 32 := 0#32
  let c1_i32_84 : BitVec 32 := 1#32
  let arg14 : BitVec 32 := Scf.iv c0_i32_82 c1_i32_84 k0_t5
  let c16_i32_106 : BitVec 32 := 16#32
  let v100 : BitVec 32 := Scalar.muli arg14 c16_i32_106
  let v101 : BitVec 32 := Scalar.addi c0_i32_107 v100
  let v268 : Index := Scalar.indexCast v101
  ![15, v268.toNat]
@[reducible] def k0_t6_loop : Scf.Loop 32 :=
  let c0_i32_99 : BitVec 32 := 0#32
  let c128_i32_100 : BitVec 32 := 128#32
  let v95 : BitVec 32 := Scalar.addi c0_i32_99 c128_i32_100
  let c1_i32_101 : BitVec 32 := 1#32
  ⟨c0_i32_99, v95, c1_i32_101⟩
def k0_off72 (k0_t6 : Fin k0_t6_loop.trips) : Fin 2 → Nat :=
  let c0_i32_108 : BitVec 32 := 0#32
  let v102 : Index := Scalar.indexCast c0_i32_108
  let c0_i32_107 : BitVec 32 := 0#32
  let c0_i32_99 : BitVec 32 := 0#32
  let c1_i32_101 : BitVec 32 := 1#32
  let arg14 : BitVec 32 := Scf.iv c0_i32_99 c1_i32_101 k0_t6
  let c16_i32_106 : BitVec 32 := 16#32
  let v100 : BitVec 32 := Scalar.muli arg14 c16_i32_106
  let v101 : BitVec 32 := Scalar.addi c0_i32_107 v100
  let v103 : Index := Scalar.indexCast v101
  ![0, v103.toNat]
def k0_off73 (k0_t6 : Fin k0_t6_loop.trips) : Fin 2 → Nat :=
  let c1_i32_110 : BitVec 32 := 1#32
  let v113 : Index := Scalar.indexCast c1_i32_110
  let c0_i32_107 : BitVec 32 := 0#32
  let c0_i32_99 : BitVec 32 := 0#32
  let c1_i32_101 : BitVec 32 := 1#32
  let arg14 : BitVec 32 := Scf.iv c0_i32_99 c1_i32_101 k0_t6
  let c16_i32_106 : BitVec 32 := 16#32
  let v100 : BitVec 32 := Scalar.muli arg14 c16_i32_106
  let v101 : BitVec 32 := Scalar.addi c0_i32_107 v100
  let v114 : Index := Scalar.indexCast v101
  ![1, v114.toNat]
def k0_off74 (k0_t6 : Fin k0_t6_loop.trips) : Fin 2 → Nat :=
  let c2_i32_113 : BitVec 32 := 2#32
  let v124 : Index := Scalar.indexCast c2_i32_113
  let c0_i32_107 : BitVec 32 := 0#32
  let c0_i32_99 : BitVec 32 := 0#32
  let c1_i32_101 : BitVec 32 := 1#32
  let arg14 : BitVec 32 := Scf.iv c0_i32_99 c1_i32_101 k0_t6
  let c16_i32_106 : BitVec 32 := 16#32
  let v100 : BitVec 32 := Scalar.muli arg14 c16_i32_106
  let v101 : BitVec 32 := Scalar.addi c0_i32_107 v100
  let v125 : Index := Scalar.indexCast v101
  ![2, v125.toNat]
def k0_off75 (k0_t6 : Fin k0_t6_loop.trips) : Fin 2 → Nat :=
  let c3_i32_116 : BitVec 32 := 3#32
  let v135 : Index := Scalar.indexCast c3_i32_116
  let c0_i32_107 : BitVec 32 := 0#32
  let c0_i32_99 : BitVec 32 := 0#32
  let c1_i32_101 : BitVec 32 := 1#32
  let arg14 : BitVec 32 := Scf.iv c0_i32_99 c1_i32_101 k0_t6
  let c16_i32_106 : BitVec 32 := 16#32
  let v100 : BitVec 32 := Scalar.muli arg14 c16_i32_106
  let v101 : BitVec 32 := Scalar.addi c0_i32_107 v100
  let v136 : Index := Scalar.indexCast v101
  ![3, v136.toNat]
def k0_off76 (k0_t6 : Fin k0_t6_loop.trips) : Fin 2 → Nat :=
  let c4_i32 : BitVec 32 := 4#32
  let v146 : Index := Scalar.indexCast c4_i32
  let c0_i32_107 : BitVec 32 := 0#32
  let c0_i32_99 : BitVec 32 := 0#32
  let c1_i32_101 : BitVec 32 := 1#32
  let arg14 : BitVec 32 := Scf.iv c0_i32_99 c1_i32_101 k0_t6
  let c16_i32_106 : BitVec 32 := 16#32
  let v100 : BitVec 32 := Scalar.muli arg14 c16_i32_106
  let v101 : BitVec 32 := Scalar.addi c0_i32_107 v100
  let v147 : Index := Scalar.indexCast v101
  ![4, v147.toNat]
def k0_off77 (k0_t6 : Fin k0_t6_loop.trips) : Fin 2 → Nat :=
  let c5_i32 : BitVec 32 := 5#32
  let v157 : Index := Scalar.indexCast c5_i32
  let c0_i32_107 : BitVec 32 := 0#32
  let c0_i32_99 : BitVec 32 := 0#32
  let c1_i32_101 : BitVec 32 := 1#32
  let arg14 : BitVec 32 := Scf.iv c0_i32_99 c1_i32_101 k0_t6
  let c16_i32_106 : BitVec 32 := 16#32
  let v100 : BitVec 32 := Scalar.muli arg14 c16_i32_106
  let v101 : BitVec 32 := Scalar.addi c0_i32_107 v100
  let v158 : Index := Scalar.indexCast v101
  ![5, v158.toNat]
def k0_off78 (k0_t6 : Fin k0_t6_loop.trips) : Fin 2 → Nat :=
  let c6_i32 : BitVec 32 := 6#32
  let v168 : Index := Scalar.indexCast c6_i32
  let c0_i32_107 : BitVec 32 := 0#32
  let c0_i32_99 : BitVec 32 := 0#32
  let c1_i32_101 : BitVec 32 := 1#32
  let arg14 : BitVec 32 := Scf.iv c0_i32_99 c1_i32_101 k0_t6
  let c16_i32_106 : BitVec 32 := 16#32
  let v100 : BitVec 32 := Scalar.muli arg14 c16_i32_106
  let v101 : BitVec 32 := Scalar.addi c0_i32_107 v100
  let v169 : Index := Scalar.indexCast v101
  ![6, v169.toNat]
def k0_off79 (k0_t6 : Fin k0_t6_loop.trips) : Fin 2 → Nat :=
  let c7_i32 : BitVec 32 := 7#32
  let v179 : Index := Scalar.indexCast c7_i32
  let c0_i32_107 : BitVec 32 := 0#32
  let c0_i32_99 : BitVec 32 := 0#32
  let c1_i32_101 : BitVec 32 := 1#32
  let arg14 : BitVec 32 := Scf.iv c0_i32_99 c1_i32_101 k0_t6
  let c16_i32_106 : BitVec 32 := 16#32
  let v100 : BitVec 32 := Scalar.muli arg14 c16_i32_106
  let v101 : BitVec 32 := Scalar.addi c0_i32_107 v100
  let v180 : Index := Scalar.indexCast v101
  ![7, v180.toNat]
def k0_off80 (k0_t6 : Fin k0_t6_loop.trips) : Fin 2 → Nat :=
  let c8_i32 : BitVec 32 := 8#32
  let v190 : Index := Scalar.indexCast c8_i32
  let c0_i32_107 : BitVec 32 := 0#32
  let c0_i32_99 : BitVec 32 := 0#32
  let c1_i32_101 : BitVec 32 := 1#32
  let arg14 : BitVec 32 := Scf.iv c0_i32_99 c1_i32_101 k0_t6
  let c16_i32_106 : BitVec 32 := 16#32
  let v100 : BitVec 32 := Scalar.muli arg14 c16_i32_106
  let v101 : BitVec 32 := Scalar.addi c0_i32_107 v100
  let v191 : Index := Scalar.indexCast v101
  ![8, v191.toNat]
def k0_off81 (k0_t6 : Fin k0_t6_loop.trips) : Fin 2 → Nat :=
  let c9_i32 : BitVec 32 := 9#32
  let v201 : Index := Scalar.indexCast c9_i32
  let c0_i32_107 : BitVec 32 := 0#32
  let c0_i32_99 : BitVec 32 := 0#32
  let c1_i32_101 : BitVec 32 := 1#32
  let arg14 : BitVec 32 := Scf.iv c0_i32_99 c1_i32_101 k0_t6
  let c16_i32_106 : BitVec 32 := 16#32
  let v100 : BitVec 32 := Scalar.muli arg14 c16_i32_106
  let v101 : BitVec 32 := Scalar.addi c0_i32_107 v100
  let v202 : Index := Scalar.indexCast v101
  ![9, v202.toNat]
def k0_off82 (k0_t6 : Fin k0_t6_loop.trips) : Fin 2 → Nat :=
  let c10_i32 : BitVec 32 := 10#32
  let v212 : Index := Scalar.indexCast c10_i32
  let c0_i32_107 : BitVec 32 := 0#32
  let c0_i32_99 : BitVec 32 := 0#32
  let c1_i32_101 : BitVec 32 := 1#32
  let arg14 : BitVec 32 := Scf.iv c0_i32_99 c1_i32_101 k0_t6
  let c16_i32_106 : BitVec 32 := 16#32
  let v100 : BitVec 32 := Scalar.muli arg14 c16_i32_106
  let v101 : BitVec 32 := Scalar.addi c0_i32_107 v100
  let v213 : Index := Scalar.indexCast v101
  ![10, v213.toNat]
def k0_off83 (k0_t6 : Fin k0_t6_loop.trips) : Fin 2 → Nat :=
  let c11_i32 : BitVec 32 := 11#32
  let v223 : Index := Scalar.indexCast c11_i32
  let c0_i32_107 : BitVec 32 := 0#32
  let c0_i32_99 : BitVec 32 := 0#32
  let c1_i32_101 : BitVec 32 := 1#32
  let arg14 : BitVec 32 := Scf.iv c0_i32_99 c1_i32_101 k0_t6
  let c16_i32_106 : BitVec 32 := 16#32
  let v100 : BitVec 32 := Scalar.muli arg14 c16_i32_106
  let v101 : BitVec 32 := Scalar.addi c0_i32_107 v100
  let v224 : Index := Scalar.indexCast v101
  ![11, v224.toNat]
def k0_off84 (k0_t6 : Fin k0_t6_loop.trips) : Fin 2 → Nat :=
  let c12_i32 : BitVec 32 := 12#32
  let v234 : Index := Scalar.indexCast c12_i32
  let c0_i32_107 : BitVec 32 := 0#32
  let c0_i32_99 : BitVec 32 := 0#32
  let c1_i32_101 : BitVec 32 := 1#32
  let arg14 : BitVec 32 := Scf.iv c0_i32_99 c1_i32_101 k0_t6
  let c16_i32_106 : BitVec 32 := 16#32
  let v100 : BitVec 32 := Scalar.muli arg14 c16_i32_106
  let v101 : BitVec 32 := Scalar.addi c0_i32_107 v100
  let v235 : Index := Scalar.indexCast v101
  ![12, v235.toNat]
def k0_off85 (k0_t6 : Fin k0_t6_loop.trips) : Fin 2 → Nat :=
  let c13_i32 : BitVec 32 := 13#32
  let v245 : Index := Scalar.indexCast c13_i32
  let c0_i32_107 : BitVec 32 := 0#32
  let c0_i32_99 : BitVec 32 := 0#32
  let c1_i32_101 : BitVec 32 := 1#32
  let arg14 : BitVec 32 := Scf.iv c0_i32_99 c1_i32_101 k0_t6
  let c16_i32_106 : BitVec 32 := 16#32
  let v100 : BitVec 32 := Scalar.muli arg14 c16_i32_106
  let v101 : BitVec 32 := Scalar.addi c0_i32_107 v100
  let v246 : Index := Scalar.indexCast v101
  ![13, v246.toNat]
def k0_off86 (k0_t6 : Fin k0_t6_loop.trips) : Fin 2 → Nat :=
  let c14_i32 : BitVec 32 := 14#32
  let v256 : Index := Scalar.indexCast c14_i32
  let c0_i32_107 : BitVec 32 := 0#32
  let c0_i32_99 : BitVec 32 := 0#32
  let c1_i32_101 : BitVec 32 := 1#32
  let arg14 : BitVec 32 := Scf.iv c0_i32_99 c1_i32_101 k0_t6
  let c16_i32_106 : BitVec 32 := 16#32
  let v100 : BitVec 32 := Scalar.muli arg14 c16_i32_106
  let v101 : BitVec 32 := Scalar.addi c0_i32_107 v100
  let v257 : Index := Scalar.indexCast v101
  ![14, v257.toNat]
def k0_off87 (k0_t6 : Fin k0_t6_loop.trips) : Fin 2 → Nat :=
  let c15_i32 : BitVec 32 := 15#32
  let v267 : Index := Scalar.indexCast c15_i32
  let c0_i32_107 : BitVec 32 := 0#32
  let c0_i32_99 : BitVec 32 := 0#32
  let c1_i32_101 : BitVec 32 := 1#32
  let arg14 : BitVec 32 := Scf.iv c0_i32_99 c1_i32_101 k0_t6
  let c16_i32_106 : BitVec 32 := 16#32
  let v100 : BitVec 32 := Scalar.muli arg14 c16_i32_106
  let v101 : BitVec 32 := Scalar.addi c0_i32_107 v100
  let v268 : Index := Scalar.indexCast v101
  ![15, v268.toNat]
def k0_off88 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_0 : BitVec 32 := 1024#32
  let v4 : BitVec 32 := Scalar.muli v1 c1024_i32_0
  let c0_i32_27 : BitVec 32 := 0#32
  ![v4.toNat, 0]
@[reducible] def k0_t7_loop : Scf.Loop 32 :=
  let c0_i32_33 : BitVec 32 := 0#32
  let c128_i32_34 : BitVec 32 := 128#32
  let v34 : BitVec 32 := Scalar.addi c0_i32_33 c128_i32_34
  let c1_i32_35 : BitVec 32 := 1#32
  ⟨c0_i32_33, v34, c1_i32_35⟩
def k0_off89 (k0_t7 : Fin k0_t7_loop.trips) : Fin 2 → Nat :=
  let c0_i32_56 : BitVec 32 := 0#32
  let v52 : Index := Scalar.indexCast c0_i32_56
  let c0_i32_55 : BitVec 32 := 0#32
  let c0_i32_33 : BitVec 32 := 0#32
  let c1_i32_35 : BitVec 32 := 1#32
  let arg13 : BitVec 32 := Scf.iv c0_i32_33 c1_i32_35 k0_t7
  let c16_i32_54 : BitVec 32 := 16#32
  let v50 : BitVec 32 := Scalar.muli arg13 c16_i32_54
  let v51 : BitVec 32 := Scalar.addi c0_i32_55 v50
  let v53 : Index := Scalar.indexCast v51
  ![0, v53.toNat]
def k0_off90 (k0_t7 : Fin k0_t7_loop.trips) : Fin 2 → Nat :=
  let c1_i32_58 : BitVec 32 := 1#32
  let v63 : Index := Scalar.indexCast c1_i32_58
  let c0_i32_55 : BitVec 32 := 0#32
  let c0_i32_33 : BitVec 32 := 0#32
  let c1_i32_35 : BitVec 32 := 1#32
  let arg13 : BitVec 32 := Scf.iv c0_i32_33 c1_i32_35 k0_t7
  let c16_i32_54 : BitVec 32 := 16#32
  let v50 : BitVec 32 := Scalar.muli arg13 c16_i32_54
  let v51 : BitVec 32 := Scalar.addi c0_i32_55 v50
  let v64 : Index := Scalar.indexCast v51
  ![1, v64.toNat]
def k0_off91 (k0_t7 : Fin k0_t7_loop.trips) : Fin 2 → Nat :=
  let c2_i32_61 : BitVec 32 := 2#32
  let v74 : Index := Scalar.indexCast c2_i32_61
  let c0_i32_55 : BitVec 32 := 0#32
  let c0_i32_33 : BitVec 32 := 0#32
  let c1_i32_35 : BitVec 32 := 1#32
  let arg13 : BitVec 32 := Scf.iv c0_i32_33 c1_i32_35 k0_t7
  let c16_i32_54 : BitVec 32 := 16#32
  let v50 : BitVec 32 := Scalar.muli arg13 c16_i32_54
  let v51 : BitVec 32 := Scalar.addi c0_i32_55 v50
  let v75 : Index := Scalar.indexCast v51
  ![2, v75.toNat]
def k0_off92 (k0_t7 : Fin k0_t7_loop.trips) : Fin 2 → Nat :=
  let c3_i32 : BitVec 32 := 3#32
  let v85 : Index := Scalar.indexCast c3_i32
  let c0_i32_55 : BitVec 32 := 0#32
  let c0_i32_33 : BitVec 32 := 0#32
  let c1_i32_35 : BitVec 32 := 1#32
  let arg13 : BitVec 32 := Scf.iv c0_i32_33 c1_i32_35 k0_t7
  let c16_i32_54 : BitVec 32 := 16#32
  let v50 : BitVec 32 := Scalar.muli arg13 c16_i32_54
  let v51 : BitVec 32 := Scalar.addi c0_i32_55 v50
  let v86 : Index := Scalar.indexCast v51
  ![3, v86.toNat]
def k0_off93 (k0_t7 : Fin k0_t7_loop.trips) : Fin 2 → Nat :=
  let c4_i32 : BitVec 32 := 4#32
  let v96 : Index := Scalar.indexCast c4_i32
  let c0_i32_55 : BitVec 32 := 0#32
  let c0_i32_33 : BitVec 32 := 0#32
  let c1_i32_35 : BitVec 32 := 1#32
  let arg13 : BitVec 32 := Scf.iv c0_i32_33 c1_i32_35 k0_t7
  let c16_i32_54 : BitVec 32 := 16#32
  let v50 : BitVec 32 := Scalar.muli arg13 c16_i32_54
  let v51 : BitVec 32 := Scalar.addi c0_i32_55 v50
  let v97 : Index := Scalar.indexCast v51
  ![4, v97.toNat]
def k0_off94 (k0_t7 : Fin k0_t7_loop.trips) : Fin 2 → Nat :=
  let c5_i32 : BitVec 32 := 5#32
  let v107 : Index := Scalar.indexCast c5_i32
  let c0_i32_55 : BitVec 32 := 0#32
  let c0_i32_33 : BitVec 32 := 0#32
  let c1_i32_35 : BitVec 32 := 1#32
  let arg13 : BitVec 32 := Scf.iv c0_i32_33 c1_i32_35 k0_t7
  let c16_i32_54 : BitVec 32 := 16#32
  let v50 : BitVec 32 := Scalar.muli arg13 c16_i32_54
  let v51 : BitVec 32 := Scalar.addi c0_i32_55 v50
  let v108 : Index := Scalar.indexCast v51
  ![5, v108.toNat]
def k0_off95 (k0_t7 : Fin k0_t7_loop.trips) : Fin 2 → Nat :=
  let c6_i32 : BitVec 32 := 6#32
  let v118 : Index := Scalar.indexCast c6_i32
  let c0_i32_55 : BitVec 32 := 0#32
  let c0_i32_33 : BitVec 32 := 0#32
  let c1_i32_35 : BitVec 32 := 1#32
  let arg13 : BitVec 32 := Scf.iv c0_i32_33 c1_i32_35 k0_t7
  let c16_i32_54 : BitVec 32 := 16#32
  let v50 : BitVec 32 := Scalar.muli arg13 c16_i32_54
  let v51 : BitVec 32 := Scalar.addi c0_i32_55 v50
  let v119 : Index := Scalar.indexCast v51
  ![6, v119.toNat]
def k0_off96 (k0_t7 : Fin k0_t7_loop.trips) : Fin 2 → Nat :=
  let c7_i32 : BitVec 32 := 7#32
  let v129 : Index := Scalar.indexCast c7_i32
  let c0_i32_55 : BitVec 32 := 0#32
  let c0_i32_33 : BitVec 32 := 0#32
  let c1_i32_35 : BitVec 32 := 1#32
  let arg13 : BitVec 32 := Scf.iv c0_i32_33 c1_i32_35 k0_t7
  let c16_i32_54 : BitVec 32 := 16#32
  let v50 : BitVec 32 := Scalar.muli arg13 c16_i32_54
  let v51 : BitVec 32 := Scalar.addi c0_i32_55 v50
  let v130 : Index := Scalar.indexCast v51
  ![7, v130.toNat]
def k0_off97 (k0_t7 : Fin k0_t7_loop.trips) : Fin 2 → Nat :=
  let c8_i32 : BitVec 32 := 8#32
  let v140 : Index := Scalar.indexCast c8_i32
  let c0_i32_55 : BitVec 32 := 0#32
  let c0_i32_33 : BitVec 32 := 0#32
  let c1_i32_35 : BitVec 32 := 1#32
  let arg13 : BitVec 32 := Scf.iv c0_i32_33 c1_i32_35 k0_t7
  let c16_i32_54 : BitVec 32 := 16#32
  let v50 : BitVec 32 := Scalar.muli arg13 c16_i32_54
  let v51 : BitVec 32 := Scalar.addi c0_i32_55 v50
  let v141 : Index := Scalar.indexCast v51
  ![8, v141.toNat]
def k0_off98 (k0_t7 : Fin k0_t7_loop.trips) : Fin 2 → Nat :=
  let c9_i32 : BitVec 32 := 9#32
  let v151 : Index := Scalar.indexCast c9_i32
  let c0_i32_55 : BitVec 32 := 0#32
  let c0_i32_33 : BitVec 32 := 0#32
  let c1_i32_35 : BitVec 32 := 1#32
  let arg13 : BitVec 32 := Scf.iv c0_i32_33 c1_i32_35 k0_t7
  let c16_i32_54 : BitVec 32 := 16#32
  let v50 : BitVec 32 := Scalar.muli arg13 c16_i32_54
  let v51 : BitVec 32 := Scalar.addi c0_i32_55 v50
  let v152 : Index := Scalar.indexCast v51
  ![9, v152.toNat]
def k0_off99 (k0_t7 : Fin k0_t7_loop.trips) : Fin 2 → Nat :=
  let c10_i32 : BitVec 32 := 10#32
  let v162 : Index := Scalar.indexCast c10_i32
  let c0_i32_55 : BitVec 32 := 0#32
  let c0_i32_33 : BitVec 32 := 0#32
  let c1_i32_35 : BitVec 32 := 1#32
  let arg13 : BitVec 32 := Scf.iv c0_i32_33 c1_i32_35 k0_t7
  let c16_i32_54 : BitVec 32 := 16#32
  let v50 : BitVec 32 := Scalar.muli arg13 c16_i32_54
  let v51 : BitVec 32 := Scalar.addi c0_i32_55 v50
  let v163 : Index := Scalar.indexCast v51
  ![10, v163.toNat]
def k0_off100 (k0_t7 : Fin k0_t7_loop.trips) : Fin 2 → Nat :=
  let c11_i32 : BitVec 32 := 11#32
  let v173 : Index := Scalar.indexCast c11_i32
  let c0_i32_55 : BitVec 32 := 0#32
  let c0_i32_33 : BitVec 32 := 0#32
  let c1_i32_35 : BitVec 32 := 1#32
  let arg13 : BitVec 32 := Scf.iv c0_i32_33 c1_i32_35 k0_t7
  let c16_i32_54 : BitVec 32 := 16#32
  let v50 : BitVec 32 := Scalar.muli arg13 c16_i32_54
  let v51 : BitVec 32 := Scalar.addi c0_i32_55 v50
  let v174 : Index := Scalar.indexCast v51
  ![11, v174.toNat]
def k0_off101 (k0_t7 : Fin k0_t7_loop.trips) : Fin 2 → Nat :=
  let c12_i32 : BitVec 32 := 12#32
  let v184 : Index := Scalar.indexCast c12_i32
  let c0_i32_55 : BitVec 32 := 0#32
  let c0_i32_33 : BitVec 32 := 0#32
  let c1_i32_35 : BitVec 32 := 1#32
  let arg13 : BitVec 32 := Scf.iv c0_i32_33 c1_i32_35 k0_t7
  let c16_i32_54 : BitVec 32 := 16#32
  let v50 : BitVec 32 := Scalar.muli arg13 c16_i32_54
  let v51 : BitVec 32 := Scalar.addi c0_i32_55 v50
  let v185 : Index := Scalar.indexCast v51
  ![12, v185.toNat]
def k0_off102 (k0_t7 : Fin k0_t7_loop.trips) : Fin 2 → Nat :=
  let c13_i32 : BitVec 32 := 13#32
  let v195 : Index := Scalar.indexCast c13_i32
  let c0_i32_55 : BitVec 32 := 0#32
  let c0_i32_33 : BitVec 32 := 0#32
  let c1_i32_35 : BitVec 32 := 1#32
  let arg13 : BitVec 32 := Scf.iv c0_i32_33 c1_i32_35 k0_t7
  let c16_i32_54 : BitVec 32 := 16#32
  let v50 : BitVec 32 := Scalar.muli arg13 c16_i32_54
  let v51 : BitVec 32 := Scalar.addi c0_i32_55 v50
  let v196 : Index := Scalar.indexCast v51
  ![13, v196.toNat]
def k0_off103 (k0_t7 : Fin k0_t7_loop.trips) : Fin 2 → Nat :=
  let c14_i32 : BitVec 32 := 14#32
  let v206 : Index := Scalar.indexCast c14_i32
  let c0_i32_55 : BitVec 32 := 0#32
  let c0_i32_33 : BitVec 32 := 0#32
  let c1_i32_35 : BitVec 32 := 1#32
  let arg13 : BitVec 32 := Scf.iv c0_i32_33 c1_i32_35 k0_t7
  let c16_i32_54 : BitVec 32 := 16#32
  let v50 : BitVec 32 := Scalar.muli arg13 c16_i32_54
  let v51 : BitVec 32 := Scalar.addi c0_i32_55 v50
  let v207 : Index := Scalar.indexCast v51
  ![14, v207.toNat]
def k0_off104 (k0_t7 : Fin k0_t7_loop.trips) : Fin 2 → Nat :=
  let c15_i32 : BitVec 32 := 15#32
  let v217 : Index := Scalar.indexCast c15_i32
  let c0_i32_55 : BitVec 32 := 0#32
  let c0_i32_33 : BitVec 32 := 0#32
  let c1_i32_35 : BitVec 32 := 1#32
  let arg13 : BitVec 32 := Scf.iv c0_i32_33 c1_i32_35 k0_t7
  let c16_i32_54 : BitVec 32 := 16#32
  let v50 : BitVec 32 := Scalar.muli arg13 c16_i32_54
  let v51 : BitVec 32 := Scalar.addi c0_i32_55 v50
  let v218 : Index := Scalar.indexCast v51
  ![15, v218.toNat]
@[reducible] def k0_t8_loop : Scf.Loop 32 :=
  let c0_i32_41 : BitVec 32 := 0#32
  let c128_i32_42 : BitVec 32 := 128#32
  let v40 : BitVec 32 := Scalar.addi c0_i32_41 c128_i32_42
  let c1_i32_43 : BitVec 32 := 1#32
  ⟨c0_i32_41, v40, c1_i32_43⟩
def k0_off105 (k0_t8 : Fin k0_t8_loop.trips) : Fin 2 → Nat :=
  let c0_i32_56 : BitVec 32 := 0#32
  let v52 : Index := Scalar.indexCast c0_i32_56
  let c0_i32_55 : BitVec 32 := 0#32
  let c0_i32_41 : BitVec 32 := 0#32
  let c1_i32_43 : BitVec 32 := 1#32
  let arg13 : BitVec 32 := Scf.iv c0_i32_41 c1_i32_43 k0_t8
  let c16_i32_54 : BitVec 32 := 16#32
  let v50 : BitVec 32 := Scalar.muli arg13 c16_i32_54
  let v51 : BitVec 32 := Scalar.addi c0_i32_55 v50
  let v53 : Index := Scalar.indexCast v51
  ![0, v53.toNat]
def k0_off106 (k0_t8 : Fin k0_t8_loop.trips) : Fin 2 → Nat :=
  let c1_i32_58 : BitVec 32 := 1#32
  let v63 : Index := Scalar.indexCast c1_i32_58
  let c0_i32_55 : BitVec 32 := 0#32
  let c0_i32_41 : BitVec 32 := 0#32
  let c1_i32_43 : BitVec 32 := 1#32
  let arg13 : BitVec 32 := Scf.iv c0_i32_41 c1_i32_43 k0_t8
  let c16_i32_54 : BitVec 32 := 16#32
  let v50 : BitVec 32 := Scalar.muli arg13 c16_i32_54
  let v51 : BitVec 32 := Scalar.addi c0_i32_55 v50
  let v64 : Index := Scalar.indexCast v51
  ![1, v64.toNat]
def k0_off107 (k0_t8 : Fin k0_t8_loop.trips) : Fin 2 → Nat :=
  let c2_i32_61 : BitVec 32 := 2#32
  let v74 : Index := Scalar.indexCast c2_i32_61
  let c0_i32_55 : BitVec 32 := 0#32
  let c0_i32_41 : BitVec 32 := 0#32
  let c1_i32_43 : BitVec 32 := 1#32
  let arg13 : BitVec 32 := Scf.iv c0_i32_41 c1_i32_43 k0_t8
  let c16_i32_54 : BitVec 32 := 16#32
  let v50 : BitVec 32 := Scalar.muli arg13 c16_i32_54
  let v51 : BitVec 32 := Scalar.addi c0_i32_55 v50
  let v75 : Index := Scalar.indexCast v51
  ![2, v75.toNat]
def k0_off108 (k0_t8 : Fin k0_t8_loop.trips) : Fin 2 → Nat :=
  let c3_i32 : BitVec 32 := 3#32
  let v85 : Index := Scalar.indexCast c3_i32
  let c0_i32_55 : BitVec 32 := 0#32
  let c0_i32_41 : BitVec 32 := 0#32
  let c1_i32_43 : BitVec 32 := 1#32
  let arg13 : BitVec 32 := Scf.iv c0_i32_41 c1_i32_43 k0_t8
  let c16_i32_54 : BitVec 32 := 16#32
  let v50 : BitVec 32 := Scalar.muli arg13 c16_i32_54
  let v51 : BitVec 32 := Scalar.addi c0_i32_55 v50
  let v86 : Index := Scalar.indexCast v51
  ![3, v86.toNat]
def k0_off109 (k0_t8 : Fin k0_t8_loop.trips) : Fin 2 → Nat :=
  let c4_i32 : BitVec 32 := 4#32
  let v96 : Index := Scalar.indexCast c4_i32
  let c0_i32_55 : BitVec 32 := 0#32
  let c0_i32_41 : BitVec 32 := 0#32
  let c1_i32_43 : BitVec 32 := 1#32
  let arg13 : BitVec 32 := Scf.iv c0_i32_41 c1_i32_43 k0_t8
  let c16_i32_54 : BitVec 32 := 16#32
  let v50 : BitVec 32 := Scalar.muli arg13 c16_i32_54
  let v51 : BitVec 32 := Scalar.addi c0_i32_55 v50
  let v97 : Index := Scalar.indexCast v51
  ![4, v97.toNat]
def k0_off110 (k0_t8 : Fin k0_t8_loop.trips) : Fin 2 → Nat :=
  let c5_i32 : BitVec 32 := 5#32
  let v107 : Index := Scalar.indexCast c5_i32
  let c0_i32_55 : BitVec 32 := 0#32
  let c0_i32_41 : BitVec 32 := 0#32
  let c1_i32_43 : BitVec 32 := 1#32
  let arg13 : BitVec 32 := Scf.iv c0_i32_41 c1_i32_43 k0_t8
  let c16_i32_54 : BitVec 32 := 16#32
  let v50 : BitVec 32 := Scalar.muli arg13 c16_i32_54
  let v51 : BitVec 32 := Scalar.addi c0_i32_55 v50
  let v108 : Index := Scalar.indexCast v51
  ![5, v108.toNat]
def k0_off111 (k0_t8 : Fin k0_t8_loop.trips) : Fin 2 → Nat :=
  let c6_i32 : BitVec 32 := 6#32
  let v118 : Index := Scalar.indexCast c6_i32
  let c0_i32_55 : BitVec 32 := 0#32
  let c0_i32_41 : BitVec 32 := 0#32
  let c1_i32_43 : BitVec 32 := 1#32
  let arg13 : BitVec 32 := Scf.iv c0_i32_41 c1_i32_43 k0_t8
  let c16_i32_54 : BitVec 32 := 16#32
  let v50 : BitVec 32 := Scalar.muli arg13 c16_i32_54
  let v51 : BitVec 32 := Scalar.addi c0_i32_55 v50
  let v119 : Index := Scalar.indexCast v51
  ![6, v119.toNat]
def k0_off112 (k0_t8 : Fin k0_t8_loop.trips) : Fin 2 → Nat :=
  let c7_i32 : BitVec 32 := 7#32
  let v129 : Index := Scalar.indexCast c7_i32
  let c0_i32_55 : BitVec 32 := 0#32
  let c0_i32_41 : BitVec 32 := 0#32
  let c1_i32_43 : BitVec 32 := 1#32
  let arg13 : BitVec 32 := Scf.iv c0_i32_41 c1_i32_43 k0_t8
  let c16_i32_54 : BitVec 32 := 16#32
  let v50 : BitVec 32 := Scalar.muli arg13 c16_i32_54
  let v51 : BitVec 32 := Scalar.addi c0_i32_55 v50
  let v130 : Index := Scalar.indexCast v51
  ![7, v130.toNat]
def k0_off113 (k0_t8 : Fin k0_t8_loop.trips) : Fin 2 → Nat :=
  let c8_i32 : BitVec 32 := 8#32
  let v140 : Index := Scalar.indexCast c8_i32
  let c0_i32_55 : BitVec 32 := 0#32
  let c0_i32_41 : BitVec 32 := 0#32
  let c1_i32_43 : BitVec 32 := 1#32
  let arg13 : BitVec 32 := Scf.iv c0_i32_41 c1_i32_43 k0_t8
  let c16_i32_54 : BitVec 32 := 16#32
  let v50 : BitVec 32 := Scalar.muli arg13 c16_i32_54
  let v51 : BitVec 32 := Scalar.addi c0_i32_55 v50
  let v141 : Index := Scalar.indexCast v51
  ![8, v141.toNat]
def k0_off114 (k0_t8 : Fin k0_t8_loop.trips) : Fin 2 → Nat :=
  let c9_i32 : BitVec 32 := 9#32
  let v151 : Index := Scalar.indexCast c9_i32
  let c0_i32_55 : BitVec 32 := 0#32
  let c0_i32_41 : BitVec 32 := 0#32
  let c1_i32_43 : BitVec 32 := 1#32
  let arg13 : BitVec 32 := Scf.iv c0_i32_41 c1_i32_43 k0_t8
  let c16_i32_54 : BitVec 32 := 16#32
  let v50 : BitVec 32 := Scalar.muli arg13 c16_i32_54
  let v51 : BitVec 32 := Scalar.addi c0_i32_55 v50
  let v152 : Index := Scalar.indexCast v51
  ![9, v152.toNat]
def k0_off115 (k0_t8 : Fin k0_t8_loop.trips) : Fin 2 → Nat :=
  let c10_i32 : BitVec 32 := 10#32
  let v162 : Index := Scalar.indexCast c10_i32
  let c0_i32_55 : BitVec 32 := 0#32
  let c0_i32_41 : BitVec 32 := 0#32
  let c1_i32_43 : BitVec 32 := 1#32
  let arg13 : BitVec 32 := Scf.iv c0_i32_41 c1_i32_43 k0_t8
  let c16_i32_54 : BitVec 32 := 16#32
  let v50 : BitVec 32 := Scalar.muli arg13 c16_i32_54
  let v51 : BitVec 32 := Scalar.addi c0_i32_55 v50
  let v163 : Index := Scalar.indexCast v51
  ![10, v163.toNat]
def k0_off116 (k0_t8 : Fin k0_t8_loop.trips) : Fin 2 → Nat :=
  let c11_i32 : BitVec 32 := 11#32
  let v173 : Index := Scalar.indexCast c11_i32
  let c0_i32_55 : BitVec 32 := 0#32
  let c0_i32_41 : BitVec 32 := 0#32
  let c1_i32_43 : BitVec 32 := 1#32
  let arg13 : BitVec 32 := Scf.iv c0_i32_41 c1_i32_43 k0_t8
  let c16_i32_54 : BitVec 32 := 16#32
  let v50 : BitVec 32 := Scalar.muli arg13 c16_i32_54
  let v51 : BitVec 32 := Scalar.addi c0_i32_55 v50
  let v174 : Index := Scalar.indexCast v51
  ![11, v174.toNat]
def k0_off117 (k0_t8 : Fin k0_t8_loop.trips) : Fin 2 → Nat :=
  let c12_i32 : BitVec 32 := 12#32
  let v184 : Index := Scalar.indexCast c12_i32
  let c0_i32_55 : BitVec 32 := 0#32
  let c0_i32_41 : BitVec 32 := 0#32
  let c1_i32_43 : BitVec 32 := 1#32
  let arg13 : BitVec 32 := Scf.iv c0_i32_41 c1_i32_43 k0_t8
  let c16_i32_54 : BitVec 32 := 16#32
  let v50 : BitVec 32 := Scalar.muli arg13 c16_i32_54
  let v51 : BitVec 32 := Scalar.addi c0_i32_55 v50
  let v185 : Index := Scalar.indexCast v51
  ![12, v185.toNat]
def k0_off118 (k0_t8 : Fin k0_t8_loop.trips) : Fin 2 → Nat :=
  let c13_i32 : BitVec 32 := 13#32
  let v195 : Index := Scalar.indexCast c13_i32
  let c0_i32_55 : BitVec 32 := 0#32
  let c0_i32_41 : BitVec 32 := 0#32
  let c1_i32_43 : BitVec 32 := 1#32
  let arg13 : BitVec 32 := Scf.iv c0_i32_41 c1_i32_43 k0_t8
  let c16_i32_54 : BitVec 32 := 16#32
  let v50 : BitVec 32 := Scalar.muli arg13 c16_i32_54
  let v51 : BitVec 32 := Scalar.addi c0_i32_55 v50
  let v196 : Index := Scalar.indexCast v51
  ![13, v196.toNat]
def k0_off119 (k0_t8 : Fin k0_t8_loop.trips) : Fin 2 → Nat :=
  let c14_i32 : BitVec 32 := 14#32
  let v206 : Index := Scalar.indexCast c14_i32
  let c0_i32_55 : BitVec 32 := 0#32
  let c0_i32_41 : BitVec 32 := 0#32
  let c1_i32_43 : BitVec 32 := 1#32
  let arg13 : BitVec 32 := Scf.iv c0_i32_41 c1_i32_43 k0_t8
  let c16_i32_54 : BitVec 32 := 16#32
  let v50 : BitVec 32 := Scalar.muli arg13 c16_i32_54
  let v51 : BitVec 32 := Scalar.addi c0_i32_55 v50
  let v207 : Index := Scalar.indexCast v51
  ![14, v207.toNat]
def k0_off120 (k0_t8 : Fin k0_t8_loop.trips) : Fin 2 → Nat :=
  let c15_i32 : BitVec 32 := 15#32
  let v217 : Index := Scalar.indexCast c15_i32
  let c0_i32_55 : BitVec 32 := 0#32
  let c0_i32_41 : BitVec 32 := 0#32
  let c1_i32_43 : BitVec 32 := 1#32
  let arg13 : BitVec 32 := Scf.iv c0_i32_41 c1_i32_43 k0_t8
  let c16_i32_54 : BitVec 32 := 16#32
  let v50 : BitVec 32 := Scalar.muli arg13 c16_i32_54
  let v51 : BitVec 32 := Scalar.addi c0_i32_55 v50
  let v218 : Index := Scalar.indexCast v51
  ![15, v218.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192x2048 : Shape := ⟨3, ![4, 8192, 2048]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S_, .f32⟩
  | .hbm, ⟨2, _⟩ => ⟨S4x8192x2048, .f32⟩
  | .hbm, ⟨3, _⟩ => ⟨S4x8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Common.lean ====
/-
  What every module of this proof shares: the program as the launch theorem for SparseCore programs sees it, the ghost
  state, the thread of one vector subcore, and the elementwise function the kernel computes.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.VecWindow
public import Idealize.ShloMosaic.Lib.Pipeline.Value
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The ghost state: the handshakes' rounds and the transfers' counters -/

abbrev UH : Type := URounds (GSem nD τ sig) ℕ
abbrev UU : Type := UH × Counters

/-- The assertions of this proof. -/
abbrev 𝕄 (F : FTy → Type) := MT nD τ sig (HIx 1) (Elt F) ℕ UU ℕ

abbrev EH : Emb UH (𝕄 F) := embL

/-! ## A vector subcore -/

/-- The SparseCore and the subcore that grid point `L` names. -/
abbrev cV (L : grid0.Coords) : Fin τ.nSC := (L 0).castLE hcore0
abbrev jV (L : grid0.Coords) : Fin τ.nSub := (L 1).castLE hsub0

/-- The thread of grid point `L`'s subcore on device `d`. -/
abbrev thr (d : Dev nD) (L : grid0.Coords) : Thread nD τ := V d (cV L) (jV L)

/-- The programs a subcore's kernel is made of. -/
abbrev TileProg (F : FTy → Type) (L : grid0.Coords) (α : Type) :=
  Prog (TpuEff nD τ sig (Elt F) Λ₀ (.scVector (cV L) (jV L))) α

/-! ## The function the kernel computes, at one element -/

variable [FloatOps F]

/-- `min(v, 1)`. -/
def min1 (v : Elt F .f32) : Elt F .f32 := (FloatOps.minimumf (F := F) (φ := .f32) v (Scalar.ofBits .f32 0x3F800000#32) : F .f32)

end Cert.Proof

end
-- ==== Proof.Steps.lean ====
/-
  One operation of the kernel at a time, over what a subcore owns: a load of a row's sixteen lanes and a store over them,
  a copy of a chunk into a staging buffer and out of one, and the wait for a copy. A buffer or a chunk is owned at the
  values read through it (`owns`), so a step says what becomes of those values.
-/
module

public import proofs.«01_k».proof.Proof.Common

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- A staging buffer, or a chunk of one of the two arrays. -/
abbrev Staging : Type := Memref sig .scVector .vmem S16x2048 .f32
abbrev Chunk : Type := Memref sig .scVector .hbm S16x2048 .f32

/-- The values of a staging buffer. -/
abbrev Tile (F : FTy → Type) : Type := S16x2048.Idx → Elt F .f32

/-- What remains to be run, from a program of subcore `L` on device `d`, to `Q`. -/
abbrev run (d : Dev nD) (L : grid0.Coords) {α : Type} (p : TileProg F L α) (Q : α → sProp (𝕄 F)) : sProp (𝕄 F) :=
  wp frame (wpE (defs₀ (F := F)) 𝒱₀ (thr d L) none) Set.univ p Q

/-- A staging buffer at the values `x`. -/
abbrev stage (d : Dev nD) (L : grid0.Coords) (M : Staging) (x : Tile F) : sProp (𝕄 F) := owns (thr d L) M fullShare x

/-- A chunk at the values `x`. -/
abbrev chunk (d : Dev nD) (L : grid0.Coords) (M : Chunk) (x : Tile F) : sProp (𝕄 F) := owns (thr d L) M fullShare x

/-- A copy in flight, worth `N` on the semaphore `sm`, whose wait hands over `D`. -/
abbrev flight (d : Dev nD) (L : grid0.Coords) (sm : DmaSem sig) (N : ℕ) (D : sProp (𝕄 F)) : sProp (𝕄 F) :=
  Transfers.Flight countersEmb (thr d L) (.dma sm) (default : HIx 1) N D

variable (d : Dev nD) (L : grid0.Coords)

/-- A program that is one operation, by the rule of that operation at the head of a program. -/
theorem run_lift {α : Type} {op : TpuEff nD τ sig (Elt F) Λ₀ (.scVector (cV L) (jV L)) α} {A B : sProp (𝕄 F)} {x : α}
    {Q : α → sProp (𝕄 F)}
    (h : A ⊢ iprop((B -∗ run d L (.ret x) Q) -∗ run d L (.op op .ret) Q)) :
    A ⊢ iprop((B -∗ Q x) -∗ run d L (Prog.lift op) Q) := by
  refine h.trans (wand_mono_left ?_)
  iintro HQ HB
  rw [run, wp_ret]
  imodintro
  iapply HQ $$ HB

/-- Lanes `16 * t` to `16 * t + 15` of row `r`, say, as a rectangle of a staging buffer, with the proof that it is inside. -/
abbrev Row : Type := { off : Fin 2 → ℕ // ∀ a, off a + S1x16.size a ≤ S16x2048.size a }
abbrev Row.rect (o : Row) : Rect S16x2048 := Rect.unit (s := S16x2048) o.1 S1x16.size o.2

/-- A load reads the row's lanes. -/
theorem run_load (M : Staging) (o : Row) (x : Tile F) {Q : (S1x16.Idx → Elt F .f32) → sProp (𝕄 F)}
    {hl : M.view.LoadsAt o.rect.toLoadRect} :
    stage d L M x ⊢ iprop((stage d L M x -∗ Q (VecWindow.window x o.1 S1x16.size o.2))
      -∗ run d L (Prog.lift (.load M o.rect.toLoadRect hl)) Q) := by
  refine run_lift d L ?_
  unfold stage owns
  iintro ⟨%f, %hf, H⟩ HQ
  subst hf
  iapply (wp_load 𝒱₀ (thr d L) none Set.univ (View.setOn_subset_set M.view o.rect.toLoadRect.set)) $$ H
  iintro H
  rw [View.readAt_unit M.view f o.2 rfl o.2]
  iapply HQ
  iexists f
  isplitr; · ipureintro; rfl
  iexact H

/-- A store of `w` leaves the values with `w` put over the row's lanes. -/
theorem run_store (M : Staging) (o : Row) (x : Tile F) (w : S1x16.Idx → Elt F .f32) {Q : PUnit → sProp (𝕄 F)}
    {hx : (M.access o.rect).Stores Finset.univ} {hm : Finset.univ = Finset.univ ∨ ∀ a, o.rect.stride a = 1} :
    stage d L M x ⊢ iprop((stage d L M (VecWindow.put x o.1 S1x16.size w) -∗ Q ⟨⟩)
      -∗ run d L (Prog.lift (.store M o.rect w Finset.univ hx hm)) Q) := by
  refine run_lift d L ?_
  unfold stage owns
  iintro ⟨%f, %hf, H⟩ HQ
  subst hf
  iapply (wp_store 𝒱₀ (thr d L) none Set.univ (m := M) (r := o.rect) (Mk := Finset.univ) (S := M.view.set) (f := f)
    (by rw [View.setOn_univ]; exact View.set_slice_subset M.view o.rect)) $$ H
  iintro H
  iapply HQ
  iexists _
  isplitr
  rotate_left; · iexact H
  ipureintro
  exact View.read_writes_cons_put M.view f o.2 w [] rfl

/-- A chunk copied into a staging buffer: in flight, and delivering the buffer at the chunk's values and the chunk. -/
theorem run_fetch (M : Staging) (X : Chunk) (sm : DmaSem sig) (x y : Tile F) {Q : PUnit → sProp (𝕄 F)}
    {h₁ : X.view.WordExact} {h₂ : M.view.WordExact} {h₃ : DmaTarget.Typed (nD := nD) (τ := τ) (p := .scVector (cV L) (jV L)) .hbm (.dma sm) (.here M)} :
    iprop(chunk d L X x ∗ stage d L M y ∗ semVal (thr d L, .dma sm) 0)
      ⊢ iprop((flight d L sm M.view.dmaCredit iprop(stage d L M x ∗ chunk d L X x) -∗ Q ⟨⟩)
        -∗ run d L (Prog.lift (.enqueueDma X (.here M) (.dma sm) h₁ h₂ h₃)) Q) := by
  refine run_lift d L ?_
  unfold stage chunk owns
  iintro ⟨⟨%f, %hf, HX⟩, ⟨%g, %hg, HM⟩, Hs⟩ HQ
  subst hf
  iapply (Transfers.wp_dmaLocal countersEmb 𝒱₀ (thr d L) none (default : HIx 1) M.view.dmaCredit rfl (View.dmaCredit_pos _ (by decide)) subset_rfl) $$ [HX HM Hs]
  · isplitl [HX]; · iexact HX
    isplitl [HM]; · iexact HM
    iexact Hs
  iintro Hf
  iapply HQ
  iapply (Transfers.Flight_mono countersEmb (thr d L) ?_) $$ Hf
  iintro ⟨HM, HX⟩
  isplitl [HM]
  · iexists _
    isplitr
    rotate_left; · iexact HM
    ipureintro
    exact View.read_write_univ g _
  · iexists f
    isplitr; · ipureintro; rfl
    iexact HX

/-- A staging buffer copied out to a chunk: in flight, and delivering the chunk at the buffer's values and the buffer. -/
theorem run_flush (M : Staging) (O : Chunk) (sm : DmaSem sig) (x y : Tile F) {Q : PUnit → sProp (𝕄 F)}
    {h₁ : M.view.WordExact} {h₂ : O.view.WordExact} {h₃ : DmaTarget.Typed (nD := nD) (τ := τ) (p := .scVector (cV L) (jV L)) .vmem (.dma sm) (.here O)} :
    iprop(stage d L M x ∗ chunk d L O y ∗ semVal (thr d L, .dma sm) 0)
      ⊢ iprop((flight d L sm O.view.dmaCredit iprop(chunk d L O x ∗ stage d L M x) -∗ Q ⟨⟩)
        -∗ run d L (Prog.lift (.enqueueDma M (.here O) (.dma sm) h₁ h₂ h₃)) Q) := by
  refine run_lift d L ?_
  unfold stage chunk owns
  iintro ⟨⟨%f, %hf, HX⟩, ⟨%g, %hg, HM⟩, Hs⟩ HQ
  subst hf
  iapply (Transfers.wp_dmaLocal countersEmb 𝒱₀ (thr d L) none (default : HIx 1) O.view.dmaCredit rfl (View.dmaCredit_pos _ (by decide)) subset_rfl) $$ [HX HM Hs]
  · isplitl [HX]; · iexact HX
    isplitl [HM]; · iexact HM
    iexact Hs
  iintro Hf
  iapply HQ
  iapply (Transfers.Flight_mono countersEmb (thr d L) ?_) $$ Hf
  iintro ⟨HM, HX⟩
  isplitl [HM]
  · iexists _
    isplitr
    rotate_left; · iexact HM
    ipureintro
    exact View.read_write_univ g _
  · iexists f
    isplitr; · ipureintro; rfl
    iexact HX

/-- What a subcore has left to answer for, having consumed on transfers alone since it stood at `W`. -/
def dues (O : CellTallies nD τ sig (HIx 1)) (W : Waits sig (HIx 1)) : sProp (𝕄 F) :=
  iprop(∃ W', ⌜∀ p ∈ W', p ∈ W ∨ p.2 = none⌝ ∗ owes (thr d L) O W')

/-- A wait hands over what its copy delivers, and the semaphore at zero. -/
theorem run_wait {sp sp' : Space} (sm : DmaSem sig) (A : Memref sig .scVector sp S16x2048 .f32) (B : Memref sig .scVector sp' S16x2048 .f32)
    (O : CellTallies nD τ sig (HIx 1)) (W : Waits sig (HIx 1)) (N : ℕ) (D : sProp (𝕄 F)) {Q : PUnit → sProp (𝕄 F)}
    (hN : B.view.dmaCredit = N) {h₁ : A.view.WordExact} {h₂ : B.view.WordExact} :
    iprop(Transfers.MayWaits (thr d L) (default : HIx 1) O ∗ flight d L sm N D ∗ dues d L O W)
      ⊢ iprop((iprop(D ∗ semVal (thr d L, .dma sm) 0 ∗ dues d L O W) -∗ Q ⟨⟩)
        -∗ run d L (Prog.lift (.waitDma2 sm A B h₁ h₂)) Q) := by
  refine run_lift d L ?_
  unfold dues
  iintro ⟨Hmw, Hf, ⟨%W', %hW, HO⟩⟩ HQ
  ihave Hm := (Transfers.MayWaits.elim (.dma sm)) $$ Hmw
  iapply (Transfers.wp_waitLocalO countersEmb 𝒱₀ (thr d L) none (default : HIx 1) hN) $$ [Hf HO Hm]
  · isplitl [Hf]; · iexact Hf
    isplitl [HO]; · iexact HO
    iexact Hm
  iintro ⟨HD, Hs, HO⟩
  iapply HQ
  isplitl [HD]; · iexact HD
  isplitl [Hs]; · iexact Hs
  iexists _
  isplitr
  rotate_left; · iexact HO
  ipureintro
  intro p hp
  rcases Finset.mem_insert.mp hp with rfl | hp
  · exact .inr rfl
  · exact hW p hp

end Cert.Proof

end
-- ==== Proof.Rows.lean ====
/-
  The kernel's pass over a staging buffer: for each of the 128 groups of sixteen lanes, the sixteen rows in turn are
  read, taken elementwise against one, and written back. The buffer ends at `min(v, 1)` of every value it held.
-/
module

public import proofs.«01_k».proof.Proof.Steps

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program of one trip -/

/-- The rows `os` of the staging buffer `M`, one after the other: each is loaded, loaded once more for nothing, and
    stored over with `min(v, 1)` of its lanes. -/
def rows {L : grid0.Coords} (M : Staging) : List Row → TileProg F L Unit
  | [] => .ret ⟨⟩
  | o :: os => do
    let v : Vec F S1x16 .f32 ← Prog.lift (.load M o.rect.toLoadRect (View.loadsAt_vmem h_S1x16))
    let _v : Vec F S1x16 .f32 ← Prog.lift (.load M o.rect.toLoadRect (View.loadsAt_vmem h_S1x16))
    Prog.lift (.store M o.rect (k0_pay1 v) Finset.univ (View.stores_vmem_bits_univ h_S1x16 rfl) (.inl rfl))
    rows M os

/-- What a row stores, lane by lane. -/
theorem k0_pay1_apply (v : Vec F S1x16 .f32) (j : S1x16.Idx) : k0_pay1 v j = min1 (v j) :=
  congrArg min1 (congrFun (shapeCast_shapeCast v shapeCasts_S1x16_S16 shapeCasts_S16_S1x16) j)

/-- The values with `min(v, 1)` over the lanes of the row `o`, -/
def clampRow (o : Row) (x : Tile F) : Tile F :=
  VecWindow.put x o.1 S1x16.size (fun j => min1 (VecWindow.window x o.1 S1x16.size o.2 j))

/-- and over those of the rows `os` in turn. -/
def clampRows (os : List Row) (x : Tile F) : Tile F := os.foldl (fun x o => clampRow o x) x

theorem run_rows (d : Dev nD) (L : grid0.Coords) (M : Staging) (os : List Row) (x : Tile F) {Q : Unit → sProp (𝕄 F)} :
    stage d L M x ⊢ iprop((stage d L M (clampRows os x) -∗ Q ⟨⟩) -∗ run d L (rows M os) Q) := by
  induction os generalizing x with
  | nil =>
    iintro H HQ
    rw [rows, run, wp_ret]
    imodintro
    rw [show clampRows [] x = x from rfl]
    iapply HQ $$ H
  | cons o os ih =>
    simp only [rows, run, wp_bind]
    iintro H HQ
    iapply (run_load d L M o x) $$ H
    iintro H
    iapply (run_load d L M o x) $$ H
    iintro H
    iapply (run_store d L M o x (k0_pay1 (VecWindow.window x o.1 S1x16.size o.2))) $$ H
    iintro H
    rw [show VecWindow.put x o.1 S1x16.size (k0_pay1 (VecWindow.window x o.1 S1x16.size o.2)) = clampRow o x from
      congrArg (VecWindow.put x o.1 S1x16.size) (funext fun j => k0_pay1_apply _ j)]
    iapply (ih (clampRow o x)) $$ H
    iexact HQ

/-! ## The values after a trip -/

/-- Row `r`'s lanes `16 * t` to `16 * t + 15`: what is inside is clamped, the rest is as it was. -/
theorem clampRow_apply (o : Row) (r t : ℕ) (h : o.1 = ![r, 16 * t]) (x : Tile F) (j : S16x2048.Idx) :
    clampRow o x j = if (j 0).val = r ∧ 16 * t ≤ (j 1).val ∧ (j 1).val < 16 * (t + 1) then min1 (x j) else x j := by
  obtain ⟨off, inb⟩ := o
  subst h
  have e : (∀ a, (![r, 16 * t] : Fin 2 → ℕ) a ≤ (j a).val ∧ (j a).val < (![r, 16 * t] : Fin 2 → ℕ) a + S1x16.size a)
      ↔ ((j 0).val = r ∧ 16 * t ≤ (j 1).val ∧ (j 1).val < 16 * (t + 1)) := by
    have h0 : S1x16.size 0 = 1 := rfl
    have h1 : S1x16.size 1 = 16 := rfl
    rw [Fin.forall_fin_two, h0, h1]
    show (r ≤ (j 0).val ∧ (j 0).val < r + 1) ∧ (16 * t ≤ (j 1).val ∧ (j 1).val < 16 * t + 16) ↔ _
    omega
  unfold clampRow VecWindow.put
  by_cases hj : (j 0).val = r ∧ 16 * t ≤ (j 1).val ∧ (j 1).val < 16 * (t + 1)
  · rw [dif_pos (e.mpr hj), if_pos hj]
    unfold VecWindow.window
    refine congrArg (fun j => min1 (x j)) (funext fun a => ?_)
    have hb := (e.mpr hj a)
    refine Fin.ext ?_
    show (![r, 16 * t] : Fin 2 → ℕ) a + 1 * ((j a).val - (![r, 16 * t] : Fin 2 → ℕ) a) = (j a).val
    omega
  · rw [dif_neg (fun h => hj (e.mp h)), if_neg hj]

/-- Rows `a` to `a + n - 1` of group `t`. -/
def group (t a n : ℕ) : List (Fin 2 → ℕ) := (List.range' a n).map fun r => ![r, 16 * t]

theorem clampRows_apply (t : ℕ) (n : ℕ) : ∀ (a : ℕ) (os : List Row) (_ : os.map Subtype.val = group t a n) (x : Tile F) (j : S16x2048.Idx),
    clampRows os x j = if (a ≤ (j 0).val ∧ (j 0).val < a + n) ∧ 16 * t ≤ (j 1).val ∧ (j 1).val < 16 * (t + 1) then min1 (x j) else x j := by
  induction n with
  | zero =>
    intro a os h x j
    have : os = [] := List.map_eq_nil_iff.mp h
    subst this
    rw [if_neg (by omega)]
    rfl
  | succ n ih =>
    intro a os h x j
    match os, h with
    | [], h => simp [group, List.range'_succ] at h
    | o :: os, h =>
      have h' : o.1 = ![a, 16 * t] ∧ os.map Subtype.val = group t (a + 1) n := by
        simpa [group, List.range'_succ] using h
      show clampRows os (clampRow o x) j = _
      rw [ih (a + 1) os h'.2, clampRow_apply o a t h'.1]
      split_ifs <;> first | rfl | (exfalso; omega)

/-- The values with the first `k` groups of lanes clamped. -/
def clamped (x : Tile F) (k : ℕ) : Tile F := fun j => if (j 1).val < 16 * k then min1 (x j) else x j

theorem clamped_zero (x : Tile F) : clamped x 0 = x := funext fun j => if_neg (by omega)

/-- Every value of a staging buffer clamped. -/
def clamp (x : Tile F) : Tile F := fun j => min1 (x j)

theorem clamped_all (x : Tile F) : clamped x 128 = clamp x :=
  funext fun j => if_pos (by have h : (j 1).val < 2048 := (j 1).isLt; omega)

theorem clamped_succ (x : Tile F) (k : ℕ) (os : List Row) (h : os.map Subtype.val = group k 0 16) :
    clampRows os (clamped x k) = clamped x (k + 1) := by
  funext j
  have h0 : (j 0).val < 16 := (j 0).isLt
  rw [clampRows_apply k 16 0 os h]
  unfold clamped
  split_ifs <;> first | rfl | (exfalso; omega)

/-! ## The loop -/

/-- A loop over the groups, each trip its sixteen rows, clamps every value of the buffer. -/
theorem run_pass (d : Dev nD) (L : grid0.Coords) (M : Staging) (l : Scf.Loop 32) (hok : l.OK) (hl : l.trips = 128)
    (body : Fin l.trips → Unit → TileProg F L Unit)
    (hbody : ∀ t u, ∃ os : List Row, body t u = rows M os ∧ os.map Subtype.val = group t.val 0 16)
    (x : Tile F) {Q : Unit → sProp (𝕄 F)} :
    stage d L M x ⊢ iprop((stage d L M (clamp x) -∗ Q ⟨⟩) -∗ run d L (Scf.Loop.for l hok ⟨⟩ body) Q) := by
  iintro H HQ
  iapply (Scf.wp_for frame (wpE (defs₀ (F := F)) 𝒱₀ (thr d L) none) Set.univ l.lb l.ub l.st hok ⟨⟩ body
    (fun k _ => stage d L M (clamped x k)) (fun t u => by
      obtain ⟨os, hp, ho⟩ := hbody t u
      rw [hp, ← clamped_succ x t.val os ho]
      iintro H
      iapply (run_rows d L M os (clamped x t.val)) $$ H
      iintro H
      iexact H))
  rw [clamped_zero, show Scf.trips l.lb l.ub l.st = 128 from hl, clamped_all]
  isplitl [H]; · iexact H
  iintro %u H
  iapply HQ $$ H

end Cert.Proof

end
-- ==== Proof.Passes.lean ====
/-
  Each of the kernel's seven passes over a staging buffer is the same program: its trip is the sixteen rows of one group
  of lanes.
-/
module

public import proofs.«01_k».proof.Proof.Rows

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (d : Dev nD) (i : grid0.Coords)
  (arg2 : Memref sig .scVector .hbm S32768x2048 .f32) (harg2 : arg2.IsWhole)
  (arg3 : Memref sig .scVector .hbm S32768x2048 .f32) (harg3 : arg3.IsWhole)
  (arg4 : Staging) (harg4 : arg4.IsWhole) (arg5 : Staging) (harg5 : arg5.IsWhole) (arg6 : Staging) (harg6 : arg6.IsWhole)
  (arg7 arg8 arg9 arg10 arg11 arg12 : DmaSems sig S_)
  (v3 v4 c0 c1 : BitVec 32) (k : Fin k0_t3_loop.trips)

/-- A trip of the first chunk's pass: the rows of group `t`. -/
theorem trip_t1 (t : Fin k0_t1_loop.trips) (u : Unit) :
    ∃ os : List Row, k0_t1_body (F := F) i arg2 harg2 arg3 harg3 arg4 harg4 arg5 harg5 arg6 harg6 arg7 arg8 arg9 arg10 arg11 arg12 t u
        = rows arg4 os ∧ os.map Subtype.val = group t.val 0 16 :=
  ⟨[⟨k0_off3 t, k0_off3_inb t⟩, ⟨k0_off4 t, k0_off4_inb t⟩, ⟨k0_off5 t, k0_off5_inb t⟩, ⟨k0_off6 t, k0_off6_inb t⟩,
      ⟨k0_off7 t, k0_off7_inb t⟩, ⟨k0_off8 t, k0_off8_inb t⟩, ⟨k0_off9 t, k0_off9_inb t⟩, ⟨k0_off10 t, k0_off10_inb t⟩,
      ⟨k0_off11 t, k0_off11_inb t⟩, ⟨k0_off12 t, k0_off12_inb t⟩, ⟨k0_off13 t, k0_off13_inb t⟩, ⟨k0_off14 t, k0_off14_inb t⟩,
      ⟨k0_off15 t, k0_off15_inb t⟩, ⟨k0_off16 t, k0_off16_inb t⟩, ⟨k0_off17 t, k0_off17_inb t⟩, ⟨k0_off18 t, k0_off18_inb t⟩], rfl, by
    simp only [List.map, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq]
    rfl⟩

/-- The pass. -/
theorem run_t1 (x : Tile F) {Q : Unit → sProp (𝕄 F)} :
    stage d i arg4 x ⊢ iprop((stage d i arg4 (clamp x) -∗ Q ⟨⟩)
      -∗ run d i (Scf.Loop.for k0_t1_loop k0_t1_ok ⟨⟩ (k0_t1_body (F := F) i arg2 harg2 arg3 harg3 arg4 harg4 arg5 harg5 arg6 harg6 arg7 arg8 arg9 arg10 arg11 arg12)) Q) :=
  run_pass d i arg4 k0_t1_loop k0_t1_ok (by decide) _
    (trip_t1 i arg2 harg2 arg3 harg3 arg4 harg4 arg5 harg5 arg6 harg6 arg7 arg8 arg9 arg10 arg11 arg12) x

/-- A trip of the second chunk's pass: the rows of group `t`. -/
theorem trip_t2 (t : Fin k0_t2_loop.trips) (u : Unit) :
    ∃ os : List Row, k0_t2_body (F := F) i arg2 harg2 arg3 harg3 arg4 harg4 arg5 harg5 arg6 harg6 arg7 arg8 arg9 arg10 arg11 arg12 t u
        = rows arg5 os ∧ os.map Subtype.val = group t.val 0 16 :=
  ⟨[⟨k0_off20 t, k0_off20_inb t⟩, ⟨k0_off21 t, k0_off21_inb t⟩, ⟨k0_off22 t, k0_off22_inb t⟩, ⟨k0_off23 t, k0_off23_inb t⟩,
      ⟨k0_off24 t, k0_off24_inb t⟩, ⟨k0_off25 t, k0_off25_inb t⟩, ⟨k0_off26 t, k0_off26_inb t⟩, ⟨k0_off27 t, k0_off27_inb t⟩,
      ⟨k0_off28 t, k0_off28_inb t⟩, ⟨k0_off29 t, k0_off29_inb t⟩, ⟨k0_off30 t, k0_off30_inb t⟩, ⟨k0_off31 t, k0_off31_inb t⟩,
      ⟨k0_off32 t, k0_off32_inb t⟩, ⟨k0_off33 t, k0_off33_inb t⟩, ⟨k0_off34 t, k0_off34_inb t⟩, ⟨k0_off35 t, k0_off35_inb t⟩], rfl, by
    simp only [List.map, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq]
    rfl⟩

/-- The pass. -/
theorem run_t2 (x : Tile F) {Q : Unit → sProp (𝕄 F)} :
    stage d i arg5 x ⊢ iprop((stage d i arg5 (clamp x) -∗ Q ⟨⟩)
      -∗ run d i (Scf.Loop.for k0_t2_loop k0_t2_ok ⟨⟩ (k0_t2_body (F := F) i arg2 harg2 arg3 harg3 arg4 harg4 arg5 harg5 arg6 harg6 arg7 arg8 arg9 arg10 arg11 arg12)) Q) :=
  run_pass d i arg5 k0_t2_loop k0_t2_ok (by decide) _
    (trip_t2 i arg2 harg2 arg3 harg3 arg4 harg4 arg5 harg5 arg6 harg6 arg7 arg8 arg9 arg10 arg11 arg12) x

/-- A trip of the steady loop's first pass: the rows of group `t`. -/
theorem trip_t4 (t : Fin k0_t4_loop.trips) (u : Unit) :
    ∃ os : List Row, k0_t4_body (F := F) i arg2 harg2 arg3 harg3 arg4 harg4 arg5 harg5 arg6 harg6 arg7 arg8 arg9 arg10 arg11 arg12 v3 v4 c0 c1 k t u
        = rows arg6 os ∧ os.map Subtype.val = group t.val 0 16 :=
  ⟨[⟨k0_off39 t, k0_off39_inb t⟩, ⟨k0_off40 t, k0_off40_inb t⟩, ⟨k0_off41 t, k0_off41_inb t⟩, ⟨k0_off42 t, k0_off42_inb t⟩,
      ⟨k0_off43 t, k0_off43_inb t⟩, ⟨k0_off44 t, k0_off44_inb t⟩, ⟨k0_off45 t, k0_off45_inb t⟩, ⟨k0_off46 t, k0_off46_inb t⟩,
      ⟨k0_off47 t, k0_off47_inb t⟩, ⟨k0_off48 t, k0_off48_inb t⟩, ⟨k0_off49 t, k0_off49_inb t⟩, ⟨k0_off50 t, k0_off50_inb t⟩,
      ⟨k0_off51 t, k0_off51_inb t⟩, ⟨k0_off52 t, k0_off52_inb t⟩, ⟨k0_off53 t, k0_off53_inb t⟩, ⟨k0_off54 t, k0_off54_inb t⟩], rfl, by
    simp only [List.map, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq, k0_off53_eq, k0_off54_eq]
    rfl⟩

/-- The pass. -/
theorem run_t4 (x : Tile F) {Q : Unit → sProp (𝕄 F)} :
    stage d i arg6 x ⊢ iprop((stage d i arg6 (clamp x) -∗ Q ⟨⟩)
      -∗ run d i (Scf.Loop.for k0_t4_loop k0_t4_ok ⟨⟩ (k0_t4_body (F := F) i arg2 harg2 arg3 harg3 arg4 harg4 arg5 harg5 arg6 harg6 arg7 arg8 arg9 arg10 arg11 arg12 v3 v4 c0 c1 k)) Q) :=
  run_pass d i arg6 k0_t4_loop k0_t4_ok (by decide) _
    (trip_t4 i arg2 harg2 arg3 harg3 arg4 harg4 arg5 harg5 arg6 harg6 arg7 arg8 arg9 arg10 arg11 arg12 v3 v4 c0 c1 k) x

/-- A trip of the steady loop's second pass: the rows of group `t`. -/
theorem trip_t5 (t : Fin k0_t5_loop.trips) (u : Unit) :
    ∃ os : List Row, k0_t5_body (F := F) i arg2 harg2 arg3 harg3 arg4 harg4 arg5 harg5 arg6 harg6 arg7 arg8 arg9 arg10 arg11 arg12 v3 v4 c0 c1 k t u
        = rows arg4 os ∧ os.map Subtype.val = group t.val 0 16 :=
  ⟨[⟨k0_off56 t, k0_off56_inb t⟩, ⟨k0_off57 t, k0_off57_inb t⟩, ⟨k0_off58 t, k0_off58_inb t⟩, ⟨k0_off59 t, k0_off59_inb t⟩,
      ⟨k0_off60 t, k0_off60_inb t⟩, ⟨k0_off61 t, k0_off61_inb t⟩, ⟨k0_off62 t, k0_off62_inb t⟩, ⟨k0_off63 t, k0_off63_inb t⟩,
      ⟨k0_off64 t, k0_off64_inb t⟩, ⟨k0_off65 t, k0_off65_inb t⟩, ⟨k0_off66 t, k0_off66_inb t⟩, ⟨k0_off67 t, k0_off67_inb t⟩,
      ⟨k0_off68 t, k0_off68_inb t⟩, ⟨k0_off69 t, k0_off69_inb t⟩, ⟨k0_off70 t, k0_off70_inb t⟩, ⟨k0_off71 t, k0_off71_inb t⟩], rfl, by
    simp only [List.map, k0_off56_eq, k0_off57_eq, k0_off58_eq, k0_off59_eq, k0_off60_eq, k0_off61_eq, k0_off62_eq, k0_off63_eq, k0_off64_eq, k0_off65_eq, k0_off66_eq, k0_off67_eq, k0_off68_eq, k0_off69_eq, k0_off70_eq, k0_off71_eq]
    rfl⟩

/-- The pass. -/
theorem run_t5 (x : Tile F) {Q : Unit → sProp (𝕄 F)} :
    stage d i arg4 x ⊢ iprop((stage d i arg4 (clamp x) -∗ Q ⟨⟩)
      -∗ run d i (Scf.Loop.for k0_t5_loop k0_t5_ok ⟨⟩ (k0_t5_body (F := F) i arg2 harg2 arg3 harg3 arg4 harg4 arg5 harg5 arg6 harg6 arg7 arg8 arg9 arg10 arg11 arg12 v3 v4 c0 c1 k)) Q) :=
  run_pass d i arg4 k0_t5_loop k0_t5_ok (by decide) _
    (trip_t5 i arg2 harg2 arg3 harg3 arg4 harg4 arg5 harg5 arg6 harg6 arg7 arg8 arg9 arg10 arg11 arg12 v3 v4 c0 c1 k) x

/-- A trip of the steady loop's third pass: the rows of group `t`. -/
theorem trip_t6 (t : Fin k0_t6_loop.trips) (u : Unit) :
    ∃ os : List Row, k0_t6_body (F := F) i arg2 harg2 arg3 harg3 arg4 harg4 arg5 harg5 arg6 harg6 arg7 arg8 arg9 arg10 arg11 arg12 v3 v4 c0 c1 k t u
        = rows arg5 os ∧ os.map Subtype.val = group t.val 0 16 :=
  ⟨[⟨k0_off72 t, k0_off72_inb t⟩, ⟨k0_off73 t, k0_off73_inb t⟩, ⟨k0_off74 t, k0_off74_inb t⟩, ⟨k0_off75 t, k0_off75_inb t⟩,
      ⟨k0_off76 t, k0_off76_inb t⟩, ⟨k0_off77 t, k0_off77_inb t⟩, ⟨k0_off78 t, k0_off78_inb t⟩, ⟨k0_off79 t, k0_off79_inb t⟩,
      ⟨k0_off80 t, k0_off80_inb t⟩, ⟨k0_off81 t, k0_off81_inb t⟩, ⟨k0_off82 t, k0_off82_inb t⟩, ⟨k0_off83 t, k0_off83_inb t⟩,
      ⟨k0_off84 t, k0_off84_inb t⟩, ⟨k0_off85 t, k0_off85_inb t⟩, ⟨k0_off86 t, k0_off86_inb t⟩, ⟨k0_off87 t, k0_off87_inb t⟩], rfl, by
    simp only [List.map, k0_off72_eq, k0_off73_eq, k0_off74_eq, k0_off75_eq, k0_off76_eq, k0_off77_eq, k0_off78_eq, k0_off79_eq, k0_off80_eq, k0_off81_eq, k0_off82_eq, k0_off83_eq, k0_off84_eq, k0_off85_eq, k0_off86_eq, k0_off87_eq]
    rfl⟩

/-- The pass. -/
theorem run_t6 (x : Tile F) {Q : Unit → sProp (𝕄 F)} :
    stage d i arg5 x ⊢ iprop((stage d i arg5 (clamp x) -∗ Q ⟨⟩)
      -∗ run d i (Scf.Loop.for k0_t6_loop k0_t6_ok ⟨⟩ (k0_t6_body (F := F) i arg2 harg2 arg3 harg3 arg4 harg4 arg5 harg5 arg6 harg6 arg7 arg8 arg9 arg10 arg11 arg12 v3 v4 c0 c1 k)) Q) :=
  run_pass d i arg5 k0_t6_loop k0_t6_ok (by decide) _
    (trip_t6 i arg2 harg2 arg3 harg3 arg4 harg4 arg5 harg5 arg6 harg6 arg7 arg8 arg9 arg10 arg11 arg12 v3 v4 c0 c1 k) x

/-- A trip of the last chunk but one's pass: the rows of group `t`. -/
theorem trip_t7 (t : Fin k0_t7_loop.trips) (u : Unit) :
    ∃ os : List Row, k0_t7_body (F := F) i arg2 harg2 arg3 harg3 arg4 harg4 arg5 harg5 arg6 harg6 arg7 arg8 arg9 arg10 arg11 arg12 v3 v4 t u
        = rows arg6 os ∧ os.map Subtype.val = group t.val 0 16 :=
  ⟨[⟨k0_off89 t, k0_off89_inb t⟩, ⟨k0_off90 t, k0_off90_inb t⟩, ⟨k0_off91 t, k0_off91_inb t⟩, ⟨k0_off92 t, k0_off92_inb t⟩,
      ⟨k0_off93 t, k0_off93_inb t⟩, ⟨k0_off94 t, k0_off94_inb t⟩, ⟨k0_off95 t, k0_off95_inb t⟩, ⟨k0_off96 t, k0_off96_inb t⟩,
      ⟨k0_off97 t, k0_off97_inb t⟩, ⟨k0_off98 t, k0_off98_inb t⟩, ⟨k0_off99 t, k0_off99_inb t⟩, ⟨k0_off100 t, k0_off100_inb t⟩,
      ⟨k0_off101 t, k0_off101_inb t⟩, ⟨k0_off102 t, k0_off102_inb t⟩, ⟨k0_off103 t, k0_off103_inb t⟩, ⟨k0_off104 t, k0_off104_inb t⟩], rfl, by
    simp only [List.map, k0_off89_eq, k0_off90_eq, k0_off91_eq, k0_off92_eq, k0_off93_eq, k0_off94_eq, k0_off95_eq, k0_off96_eq, k0_off97_eq, k0_off98_eq, k0_off99_eq, k0_off100_eq, k0_off101_eq, k0_off102_eq, k0_off103_eq, k0_off104_eq]
    rfl⟩

/-- The pass. -/
theorem run_t7 (x : Tile F) {Q : Unit → sProp (𝕄 F)} :
    stage d i arg6 x ⊢ iprop((stage d i arg6 (clamp x) -∗ Q ⟨⟩)
      -∗ run d i (Scf.Loop.for k0_t7_loop k0_t7_ok ⟨⟩ (k0_t7_body (F := F) i arg2 harg2 arg3 harg3 arg4 harg4 arg5 harg5 arg6 harg6 arg7 arg8 arg9 arg10 arg11 arg12 v3 v4)) Q) :=
  run_pass d i arg6 k0_t7_loop k0_t7_ok (by decide) _
    (trip_t7 i arg2 harg2 arg3 harg3 arg4 harg4 arg5 harg5 arg6 harg6 arg7 arg8 arg9 arg10 arg11 arg12 v3 v4) x

/-- A trip of the last chunk's pass: the rows of group `t`. -/
theorem trip_t8 (t : Fin k0_t8_loop.trips) (u : Unit) :
    ∃ os : List Row, k0_t8_body (F := F) i arg2 harg2 arg3 harg3 arg4 harg4 arg5 harg5 arg6 harg6 arg7 arg8 arg9 arg10 arg11 arg12 v3 v4 t u
        = rows arg4 os ∧ os.map Subtype.val = group t.val 0 16 :=
  ⟨[⟨k0_off105 t, k0_off105_inb t⟩, ⟨k0_off106 t, k0_off106_inb t⟩, ⟨k0_off107 t, k0_off107_inb t⟩, ⟨k0_off108 t, k0_off108_inb t⟩,
      ⟨k0_off109 t, k0_off109_inb t⟩, ⟨k0_off110 t, k0_off110_inb t⟩, ⟨k0_off111 t, k0_off111_inb t⟩, ⟨k0_off112 t, k0_off112_inb t⟩,
      ⟨k0_off113 t, k0_off113_inb t⟩, ⟨k0_off114 t, k0_off114_inb t⟩, ⟨k0_off115 t, k0_off115_inb t⟩, ⟨k0_off116 t, k0_off116_inb t⟩,
      ⟨k0_off117 t, k0_off117_inb t⟩, ⟨k0_off118 t, k0_off118_inb t⟩, ⟨k0_off119 t, k0_off119_inb t⟩, ⟨k0_off120 t, k0_off120_inb t⟩], rfl, by
    simp only [List.map, k0_off105_eq, k0_off106_eq, k0_off107_eq, k0_off108_eq, k0_off109_eq, k0_off110_eq, k0_off111_eq, k0_off112_eq, k0_off113_eq, k0_off114_eq, k0_off115_eq, k0_off116_eq, k0_off117_eq, k0_off118_eq, k0_off119_eq, k0_off120_eq]
    rfl⟩

/-- The pass. -/
theorem run_t8 (x : Tile F) {Q : Unit → sProp (𝕄 F)} :
    stage d i arg4 x ⊢ iprop((stage d i arg4 (clamp x) -∗ Q ⟨⟩)
      -∗ run d i (Scf.Loop.for k0_t8_loop k0_t8_ok ⟨⟩ (k0_t8_body (F := F) i arg2 harg2 arg3 harg3 arg4 harg4 arg5 harg5 arg6 harg6 arg7 arg8 arg9 arg10 arg11 arg12 v3 v4)) Q) :=
  run_pass d i arg4 k0_t8_loop k0_t8_ok (by decide) _
    (trip_t8 i arg2 harg2 arg3 harg3 arg4 harg4 arg5 harg5 arg6 harg6 arg7 arg8 arg9 arg10 arg11 arg12 v3 v4) x

end Cert.Proof

end
-- ==== Proof.Tile.lean ====
/-
  What one vector subcore does to its 64 chunks. Chunks are fetched, clamped in place and copied out through three staging
  buffers, in order: while a chunk is clamped, the next is on its way in and the two before it are on their way out. At the
  end every chunk of the result holds the clamped values of the operand's chunk of the same number, every copy has been
  waited for, and every semaphore is back at zero.
-/
module

public import proofs.«01_k».proof.Proof.Passes
public import Idealize.ShloMosaic.Lib.Ring

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Ring (rangeSet rangeSet_univ bigSep_rangeSet_head bigSep_rangeSet_last bigSep_rangeSet_empty)

variable {F : FTy → Type} [FloatOps F]

/-- One of the two arrays of 32768 rows. -/
abbrev Rows : Type := Memref sig .scVector .hbm S32768x2048 .f32

/-! ## The chunks of a subcore -/

/-- Where chunk `t` of subcore `i` starts: its band of 1024 rows, and sixteen rows a chunk. -/
abbrev chunkOff (i : grid0.Coords) (t : ℕ) : Fin 2 → ℕ := ![2048 * (i 1).val + 1024 * (i 0).val + 16 * t, 0]

theorem chunkOff_inb (i : grid0.Coords) (t : ℕ) (ht : t < 64) : ∀ a, chunkOff i t a + S16x2048.size a ≤ S32768x2048.size a := by
  have h0 : (i 0).val < 2 := (i 0).isLt
  have h1 : (i 1).val < 16 := (i 1).isLt
  rw [Fin.forall_fin_two]
  show 2048 * (i 1).val + 1024 * (i 0).val + 16 * t + 16 ≤ 32768 ∧ 0 + 2048 ≤ 2048
  omega

/-- Chunk `t` of subcore `i` in an array. -/
abbrev chunkAt (A : Rows) (i : grid0.Coords) (t : Fin 64) : Chunk :=
  A.slice (Rect.unit (s := S32768x2048) (chunkOff i t.val) S16x2048.size (chunkOff_inb i t.val t.isLt)) (fun _ => rfl)

/-! ## Where the program addresses its chunks -/

theorem read_off (i : grid0.Coords) : k0_off1 i 0#32 = chunkOff i 0 ∧ k0_off1 i 16#32 = chunkOff i 1 ∧ k0_off1 i 32#32 = chunkOff i 2
    ∧ k0_off1 i 1008#32 = chunkOff i 63 := by revert i; decide +kernel
theorem write_off (i : grid0.Coords) : k0_off19 i 0#32 = chunkOff i 0 ∧ k0_off19 i 16#32 = chunkOff i 1 ∧ k0_off19 i 992#32 = chunkOff i 62
    ∧ k0_off19 i 1008#32 = chunkOff i 63 := by revert i; decide +kernel

theorem read_off_trip (i : grid0.Coords) (k : Fin k0_t3_loop.trips) :
    k0_off37 i k 0#32 = chunkOff i (3 * k.val + 3) ∧ k0_off37 i k 1#32 = chunkOff i (3 * k.val + 4)
      ∧ k0_off37 i k 2#32 = chunkOff i (3 * k.val + 5) :=
  ⟨(k0_off37_eq i k 0).trans (congrArg (fun n : ℕ => ![n, 0]) (by show _ + 16 * 0 + 48 = _; omega)),
   (k0_off37_eq i k 1).trans (congrArg (fun n : ℕ => ![n, 0]) (by show _ + 16 * 1 + 48 = _; omega)),
   (k0_off37_eq i k 2).trans (congrArg (fun n : ℕ => ![n, 0]) (by show _ + 16 * 2 + 48 = _; omega))⟩
theorem write_off_trip (i : grid0.Coords) (k : Fin k0_t3_loop.trips) :
    k0_off55 i k 0#32 = chunkOff i (3 * k.val + 2) ∧ k0_off55 i k 1#32 = chunkOff i (3 * k.val + 3)
      ∧ k0_off55 i k 2#32 = chunkOff i (3 * k.val + 4) :=
  ⟨(k0_off55_eq i k 0).trans (congrArg (fun n : ℕ => ![n, 0]) (by show _ + 16 * 0 + 32 = _; omega)),
   (k0_off55_eq i k 1).trans (congrArg (fun n : ℕ => ![n, 0]) (by show _ + 16 * 1 + 32 = _; omega)),
   (k0_off55_eq i k 2).trans (congrArg (fun n : ℕ => ![n, 0]) (by show _ + 16 * 2 + 32 = _; omega))⟩

/-! ## What a subcore holds -/

section Holdings

variable (d : Dev nD) (i : grid0.Coords) (arg2 arg3 : Rows) (X Y : Fin 64 → Tile F)

/-- Chunk `t` of the operand, at its values; -/
abbrev xAt (t : Fin 64) : sProp (𝕄 F) := chunk d i (chunkAt arg2 i t) (X t)
/-- chunk `t` of the result as it was found, -/
abbrev oldAt (t : Fin 64) : sProp (𝕄 F) := chunk d i (chunkAt arg3 i t) (Y t)
/-- and as it is left. -/
abbrev newAt (t : Fin 64) : sProp (𝕄 F) := chunk d i (chunkAt arg3 i t) (clamp (X t))

/-- The operand's chunks from `lo` to `hi - 1`; the result's, as found, and as left. -/
def xs (lo hi : ℕ) : sProp (𝕄 F) := bigSep (rangeSet 64 lo hi) (xAt d i arg2 X)
def olds (lo hi : ℕ) : sProp (𝕄 F) := bigSep (rangeSet 64 lo hi) (oldAt d i arg3 Y)
def news (lo hi : ℕ) : sProp (𝕄 F) := bigSep (rangeSet 64 lo hi) (newAt d i arg3 X)

/-- Chunk `t` on its way into the staging buffer `M`; -/
abbrev coming (sm : DmaSem sig) (M : Staging) (t : Fin 64) : sProp (𝕄 F) :=
  flight d i sm M.view.dmaCredit iprop(stage d i M (X t) ∗ xAt d i arg2 X t)
/-- chunk `t`, clamped, on its way out of it. -/
abbrev going (sm : DmaSem sig) (M : Staging) (t : Fin 64) : sProp (𝕄 F) :=
  flight d i sm (chunkAt arg3 i t).view.dmaCredit iprop(newAt d i arg3 X t ∗ stage d i M (clamp (X t)))

/-- No copy in flight on `sm`. -/
abbrev idle (sm : DmaSem sig) : sProp (𝕄 F) := semVal (thr d i, .dma sm) 0

/-! ## One step of the pipeline -/

/-- A run of chunks with its last taken in: what a wait returns joins those already returned. -/
theorem take_in (Φ : Fin 64 → sProp (𝕄 F)) (t : ℕ) (ht : t < 64) :
    iprop(bigSep (rangeSet 64 0 t) Φ ∗ Φ ⟨t, ht⟩) ⊢ bigSep (rangeSet 64 0 (t + 1)) Φ := by
  rw [bigSep_rangeSet_last (Nat.succ_pos t) ht]
  exact sep_comm.1

/-- Fetching the next chunk. -/
theorem run_fetch_next (t : ℕ) (ht : t < 64) (M : Staging) (y : Tile F) (sm : DmaSem sig) {off : Fin 2 → ℕ}
    {inb : ∀ a, off a + S16x2048.size a ≤ S32768x2048.size a} (hoff : off = chunkOff i t) {Q : PUnit → sProp (𝕄 F)}
    {h₁ : (arg2.slice (Rect.unit (s := S32768x2048) off S16x2048.size inb) (fun _ => rfl)).view.WordExact} {h₂ : M.view.WordExact}
    {h₃ : DmaTarget.Typed (nD := nD) (τ := τ) (p := .scVector (cV i) (jV i)) .hbm (.dma sm) (.here M)} :
    xs d i arg2 X t 64 ⊢ iprop(stage d i M y -∗ idle d i sm -∗ (xs d i arg2 X (t + 1) 64 -∗ coming d i arg2 X sm M ⟨t, ht⟩ -∗ Q ⟨⟩)
      -∗ run d i (Prog.lift (.enqueueDma (arg2.slice (Rect.unit (s := S32768x2048) off S16x2048.size inb) (fun _ => rfl))
          (.here M) (.dma sm) h₁ h₂ h₃)) Q) := by
  subst hoff
  unfold xs
  rw [bigSep_rangeSet_head ht ht]
  iintro ⟨Hx, Hxs⟩ HM Hs HQ
  iapply (run_fetch d i M (chunkAt arg2 i ⟨t, ht⟩) sm (X ⟨t, ht⟩) y) $$ [Hx HM Hs]
  · isplitl [Hx]; · iexact Hx
    isplitl [HM]; · iexact HM
    iexact Hs
  iintro Hf
  iapply HQ $$ Hxs Hf

/-- Waiting for the chunk fetched first. -/
theorem run_arrive (O : CellTallies nD τ sig (HIx 1)) (W : Waits sig (HIx 1)) (t : ℕ) (ht : t < 64) {sp : Space}
    (A : Memref sig .scVector sp S16x2048 .f32) (M : Staging) (sm : DmaSem sig) {Q : PUnit → sProp (𝕄 F)}
    {h₁ : A.view.WordExact} {h₂ : M.view.WordExact} :
    Transfers.MayWaits (thr d i) (default : HIx 1) O
      ⊢ iprop(dues d i O W -∗ coming d i arg2 X sm M ⟨t, ht⟩ -∗ xs d i arg2 X 0 t
        -∗ (dues d i O W -∗ stage d i M (X ⟨t, ht⟩) -∗ idle d i sm -∗ xs d i arg2 X 0 (t + 1) -∗ Q ⟨⟩)
        -∗ run d i (Prog.lift (.waitDma2 sm A M h₁ h₂)) Q) := by
  unfold xs
  iintro Hmw HO Hf Hxs HQ
  iapply (run_wait d i sm A M O W M.view.dmaCredit iprop(stage d i M (X ⟨t, ht⟩) ∗ xAt d i arg2 X ⟨t, ht⟩) rfl) $$ [Hmw Hf HO]
  · isplitl [Hmw]; · iexact Hmw
    isplitl [Hf]; · iexact Hf
    iexact HO
  iintro ⟨⟨HM, Hx⟩, Hs, HO⟩
  ihave Hxs := (take_in (xAt d i arg2 X) t ht) $$ [Hxs Hx]
  · isplitl [Hxs]; · iexact Hxs
    iexact Hx
  iapply HQ $$ HO HM Hs Hxs

/-- Copying the next clamped chunk out. -/
theorem run_flush_next (t : ℕ) (ht : t < 64) (M : Staging) (sm : DmaSem sig) {off : Fin 2 → ℕ}
    {inb : ∀ a, off a + S16x2048.size a ≤ S32768x2048.size a} (hoff : off = chunkOff i t) {Q : PUnit → sProp (𝕄 F)}
    {h₁ : M.view.WordExact} {h₂ : (arg3.slice (Rect.unit (s := S32768x2048) off S16x2048.size inb) (fun _ => rfl)).view.WordExact}
    {h₃ : DmaTarget.Typed (nD := nD) (τ := τ) (p := .scVector (cV i) (jV i)) .vmem (.dma sm)
      (.here (arg3.slice (Rect.unit (s := S32768x2048) off S16x2048.size inb) (fun _ => rfl)))} :
    olds d i arg3 Y t 64 ⊢ iprop(stage d i M (clamp (X ⟨t, ht⟩)) -∗ idle d i sm
      -∗ (olds d i arg3 Y (t + 1) 64 -∗ going d i arg3 X sm M ⟨t, ht⟩ -∗ Q ⟨⟩)
      -∗ run d i (Prog.lift (.enqueueDma M (.here (arg3.slice (Rect.unit (s := S32768x2048) off S16x2048.size inb) (fun _ => rfl)))
          (.dma sm) h₁ h₂ h₃)) Q) := by
  subst hoff
  unfold olds
  rw [bigSep_rangeSet_head ht ht]
  iintro ⟨Ho, Hos⟩ HM Hs HQ
  iapply (run_flush d i M (chunkAt arg3 i ⟨t, ht⟩) sm (clamp (X ⟨t, ht⟩)) (Y ⟨t, ht⟩)) $$ [Ho HM Hs]
  · isplitl [HM]; · iexact HM
    isplitl [Ho]; · iexact Ho
    iexact Hs
  iintro Hf
  iapply HQ $$ Hos Hf

/-- Waiting for a chunk copied out. -/
theorem run_drain (O : CellTallies nD τ sig (HIx 1)) (W : Waits sig (HIx 1)) (t : Fin 64) {sp : Space}
    (A : Memref sig .scVector sp S16x2048 .f32) (M : Staging) (sm : DmaSem sig) {off : Fin 2 → ℕ}
    {inb : ∀ a, off a + S16x2048.size a ≤ S32768x2048.size a} {Q : PUnit → sProp (𝕄 F)}
    {h₁ : A.view.WordExact} {h₂ : (arg3.slice (Rect.unit (s := S32768x2048) off S16x2048.size inb) (fun _ => rfl)).view.WordExact} :
    Transfers.MayWaits (thr d i) (default : HIx 1) O
      ⊢ iprop(dues d i O W -∗ going d i arg3 X sm M t
        -∗ (dues d i O W -∗ stage d i M (clamp (X t)) -∗ idle d i sm -∗ newAt d i arg3 X t -∗ Q ⟨⟩)
        -∗ run d i (Prog.lift (.waitDma2 sm A (arg3.slice (Rect.unit (s := S32768x2048) off S16x2048.size inb) (fun _ => rfl)) h₁ h₂)) Q) := by
  iintro Hmw HO Hf HQ
  iapply (run_wait d i sm A (arg3.slice (Rect.unit (s := S32768x2048) off S16x2048.size inb) (fun _ => rfl)) O W
    (chunkAt arg3 i t).view.dmaCredit iprop(newAt d i arg3 X t ∗ stage d i M (clamp (X t))) rfl) $$ [Hmw Hf HO]
  · isplitl [Hmw]; · iexact Hmw
    isplitl [Hf]; · iexact Hf
    iexact HO
  iintro ⟨⟨Ho, HM⟩, Hs, HO⟩
  iapply HQ $$ HO HM Hs Ho

/-- The same, in order. -/
theorem run_drain_next (O : CellTallies nD τ sig (HIx 1)) (W : Waits sig (HIx 1)) (t : ℕ) (ht : t < 64) {sp : Space}
    (A : Memref sig .scVector sp S16x2048 .f32) (M : Staging) (sm : DmaSem sig) {off : Fin 2 → ℕ}
    {inb : ∀ a, off a + S16x2048.size a ≤ S32768x2048.size a} {Q : PUnit → sProp (𝕄 F)}
    {h₁ : A.view.WordExact} {h₂ : (arg3.slice (Rect.unit (s := S32768x2048) off S16x2048.size inb) (fun _ => rfl)).view.WordExact} :
    Transfers.MayWaits (thr d i) (default : HIx 1) O
      ⊢ iprop(dues d i O W -∗ going d i arg3 X sm M ⟨t, ht⟩ -∗ news d i arg3 X 0 t
        -∗ (dues d i O W -∗ stage d i M (clamp (X ⟨t, ht⟩)) -∗ idle d i sm -∗ news d i arg3 X 0 (t + 1) -∗ Q ⟨⟩)
        -∗ run d i (Prog.lift (.waitDma2 sm A (arg3.slice (Rect.unit (s := S32768x2048) off S16x2048.size inb) (fun _ => rfl)) h₁ h₂)) Q) := by
  unfold news
  iintro Hmw HO Hf Hn HQ
  iapply (run_drain d i arg3 X O W ⟨t, ht⟩ A M sm) $$ Hmw HO Hf
  iintro HO HM Hs Ho
  ihave Hn := (take_in (newAt d i arg3 X) t ht) $$ [Hn Ho]
  · isplitl [Hn]; · iexact Hn
    iexact Ho
  iapply HQ $$ HO HM Hs Hn

end Holdings

end Cert.Proof

end
-- ==== Proof.Band.lean ====
/-
  The pipeline of one vector subcore, from its first fetch to its last wait. The steady state before trip `k` of its loop:
  chunk `3k + 2` is on its way into the third staging buffer, chunks `3k` and `3k + 1` are on their way out of the first and
  the second, every earlier chunk is done and every later one untouched.
-/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Ring (rangeSet rangeSet_univ bigSep_rangeSet_head bigSep_rangeSet_last bigSep_rangeSet_empty)

variable {F : FTy → Type} [FloatOps F]

variable (d : Dev nD) (i : grid0.Coords) (arg2 : Rows) (harg2 : arg2.IsWhole) (arg3 : Rows) (harg3 : arg3.IsWhole)
  (arg4 : Staging) (harg4 : arg4.IsWhole) (arg5 : Staging) (harg5 : arg5.IsWhole) (arg6 : Staging) (harg6 : arg6.IsWhole)
  (arg7 arg8 arg9 arg10 arg11 arg12 : DmaSems sig S_) (v3 v4 c0 c1 : BitVec 32) (k : Fin k0_t3_loop.trips)
  (X Y : Fin 64 → Tile F) (O : CellTallies nD τ sig (HIx 1)) (W : Waits sig (HIx 1))

theorem trips_eq : k0_t3_loop.trips = 20 := by decide

/-! ## The steady state -/

/-- What a subcore holds when chunk `n + 2` is coming and chunks `n` and `n + 1` are going. -/
def steady (n : ℕ) (h : n + 2 < 64) : sProp (𝕄 F) :=
  iprop(dues d i O W ∗ xs d i arg2 X 0 (n + 2) ∗ xs d i arg2 X (n + 3) 64 ∗ news d i arg3 X 0 n ∗ olds d i arg3 Y (n + 2) 64
    ∗ going d i arg3 X arg10.sem arg4 ⟨n, by omega⟩ ∗ going d i arg3 X arg11.sem arg5 ⟨n + 1, by omega⟩
    ∗ coming d i arg2 X arg9.sem arg6 ⟨n + 2, h⟩ ∗ idle d i arg7.sem ∗ idle d i arg8.sem ∗ idle d i arg12.sem)

/-- What it holds midway through a trip, the second buffer free to be filled: chunk `n + 3` is coming, chunk `n + 2` going. -/
def midway (n : ℕ) (h : n + 5 < 64) : sProp (𝕄 F) :=
  iprop(dues d i O W ∗ xs d i arg2 X 0 (n + 3) ∗ xs d i arg2 X (n + 4) 64 ∗ news d i arg3 X 0 (n + 2) ∗ olds d i arg3 Y (n + 3) 64
    ∗ coming d i arg2 X arg7.sem arg4 ⟨n + 3, by omega⟩ ∗ stage d i arg5 (clamp (X ⟨n + 1, by omega⟩))
    ∗ going d i arg3 X arg12.sem arg6 ⟨n + 2, by omega⟩ ∗ idle d i arg8.sem ∗ idle d i arg9.sem ∗ idle d i arg10.sem ∗ idle d i arg11.sem)

/-! ## A trip of the loop -/

/-- The first half of a trip. -/
theorem run_first (h : 3 * k.val + 5 < 64) {Q : (Σ' (_ : BitVec 32), BitVec 32) → sProp (𝕄 F)} :
    Transfers.MayWaits (thr d i) (default : HIx 1) O ⊢ iprop(steady d i arg2 arg3 arg4 arg5 arg6 arg7 arg8 arg9 arg10 arg11 arg12 X Y O W (3 * k.val) (by omega)
      -∗ (∀ r, midway d i arg2 arg3 arg4 arg5 arg6 arg7 arg8 arg9 arg10 arg11 arg12 X Y O W (3 * k.val) h -∗ Q r)
      -∗ run d i (k0_part21 i arg2 harg2 arg3 harg3 arg4 harg4 arg5 harg5 arg6 harg6 arg7 arg8 arg9 arg10 arg11 arg12 v3 v4 c0 c1 k) Q) := by
  rw [k0_part21_eq_skeleton]
  unfold k0_part21_skel steady
  simp only [run, wp_bind]
  iintro #Hmw ⟨HO, Hxd, Hxr, Hod, Hor, H4, H5, H6, Hs7, Hs8, Hs12⟩ HQ
  iapply (run_drain_next d i arg3 X O W (3 * k.val) _ _ arg4 arg10.sem) $$ Hmw HO H4 Hod
  iintro HO H4 Hs10 Hod
  iapply (run_fetch_next d i arg2 X (3 * k.val + 3) (by omega) arg4 _ arg7.sem (read_off_trip i k).1) $$ Hxr H4 Hs7
  iintro Hxr H4
  iapply (run_arrive d i arg2 X O W (3 * k.val + 2) _ _ arg6 arg9.sem) $$ Hmw HO H6 Hxd
  iintro HO H6 Hs9 Hxd
  iapply (run_t4 d i arg2 harg2 arg3 harg3 arg4 harg4 arg5 harg5 arg6 harg6 arg7 arg8 arg9 arg10 arg11 arg12 v3 v4 c0 c1 k _) $$ H6
  iintro H6
  iapply (run_flush_next d i arg3 X Y (3 * k.val + 2) _ arg6 arg12.sem (write_off_trip i k).1) $$ Hor H6 Hs12
  iintro Hor H6
  iapply (run_drain_next d i arg3 X O W (3 * k.val + 1) _ _ arg5 arg11.sem) $$ Hmw HO H5 Hod
  iintro HO H5 Hs11 Hod
  rw [wp_pure]
  imodintro
  iapply HQ
  unfold midway
  isplitl [HO]; · iexact HO
  isplitl [Hxd]; · iexact Hxd
  isplitl [Hxr]; · iexact Hxr
  isplitl [Hod]; · iexact Hod
  isplitl [Hor]; · iexact Hor
  isplitl [H4]; · iexact H4
  isplitl [H5]; · iexact H5
  isplitl [H6]; · iexact H6
  isplitl [Hs8]; · iexact Hs8
  isplitl [Hs9]; · iexact Hs9
  isplitl [Hs10]; · iexact Hs10
  iexact Hs11

/-- A trip: from one steady state to the next. -/
theorem run_trip (h : 3 * k.val + 5 < 64) {Q : PUnit → sProp (𝕄 F)} :
    Transfers.MayWaits (thr d i) (default : HIx 1) O ⊢ iprop(steady d i arg2 arg3 arg4 arg5 arg6 arg7 arg8 arg9 arg10 arg11 arg12 X Y O W (3 * k.val) (by omega)
      -∗ (steady d i arg2 arg3 arg4 arg5 arg6 arg7 arg8 arg9 arg10 arg11 arg12 X Y O W (3 * k.val + 3) h -∗ Q ⟨⟩)
      -∗ run d i (k0_part22 i arg2 harg2 arg3 harg3 arg4 harg4 arg5 harg5 arg6 harg6 arg7 arg8 arg9 arg10 arg11 arg12 v3 v4 c0 c1 k) Q) := by
  rw [k0_part22_eq_skeleton]
  unfold k0_part22_skel
  simp only [run, wp_bind]
  iintro #Hmw H HQ
  iapply (run_first d i arg2 harg2 arg3 harg3 arg4 harg4 arg5 harg5 arg6 harg6 arg7 arg8 arg9 arg10 arg11 arg12 v3 v4 c0 c1 k X Y O W h) $$ Hmw H
  iintro %r H
  unfold midway
  icases H with ⟨HO, Hxd, Hxr, Hod, Hor, H4, H5, H6, Hs8, Hs9, Hs10, Hs11⟩
  iapply (run_fetch_next d i arg2 X (3 * k.val + 4) (by omega) arg5 _ arg8.sem (read_off_trip i k).2.1) $$ Hxr H5 Hs8
  iintro Hxr H5
  iapply (run_arrive d i arg2 X O W (3 * k.val + 3) _ _ arg4 arg7.sem) $$ Hmw HO H4 Hxd
  iintro HO H4 Hs7 Hxd
  iapply (run_t5 d i arg2 harg2 arg3 harg3 arg4 harg4 arg5 harg5 arg6 harg6 arg7 arg8 arg9 arg10 arg11 arg12 v3 v4 c0 c1 k _) $$ H4
  iintro H4
  iapply (run_flush_next d i arg3 X Y (3 * k.val + 3) _ arg4 arg10.sem (write_off_trip i k).2.1) $$ Hor H4 Hs10
  iintro Hor H4
  iapply (run_drain_next d i arg3 X O W (3 * k.val + 2) _ _ arg6 arg12.sem) $$ Hmw HO H6 Hod
  iintro HO H6 Hs12 Hod
  iapply (run_fetch_next d i arg2 X (3 * k.val + 5) (by omega) arg6 _ arg9.sem (read_off_trip i k).2.2) $$ Hxr H6 Hs9
  iintro Hxr H6
  iapply (run_arrive d i arg2 X O W (3 * k.val + 4) _ _ arg5 arg8.sem) $$ Hmw HO H5 Hxd
  iintro HO H5 Hs8 Hxd
  iapply (run_t6 d i arg2 harg2 arg3 harg3 arg4 harg4 arg5 harg5 arg6 harg6 arg7 arg8 arg9 arg10 arg11 arg12 v3 v4 c0 c1 k _) $$ H5
  iintro H5
  iapply (run_flush_next d i arg3 X Y (3 * k.val + 4) _ arg5 arg11.sem (write_off_trip i k).2.2) $$ Hor H5 Hs11
  iintro Hor H5
  rw [wp_pure]
  imodintro
  iapply HQ
  unfold steady
  isplitl [HO]; · iexact HO
  isplitl [Hxd]; · iexact Hxd
  isplitl [Hxr]; · iexact Hxr
  isplitl [Hod]; · iexact Hod
  isplitl [Hor]; · iexact Hor
  isplitl [H4]; · iexact H4
  isplitl [H5]; · iexact H5
  isplitl [H6]; · iexact H6
  isplitl [Hs7]; · iexact Hs7
  isplitl [Hs8]; · iexact Hs8
  iexact Hs12

/-- The loop: from the first steady state to the last. -/
theorem run_loop {Q : Unit → sProp (𝕄 F)} :
    Transfers.MayWaits (thr d i) (default : HIx 1) O ⊢ iprop(steady d i arg2 arg3 arg4 arg5 arg6 arg7 arg8 arg9 arg10 arg11 arg12 X Y O W (0) (by omega)
      -∗ (steady d i arg2 arg3 arg4 arg5 arg6 arg7 arg8 arg9 arg10 arg11 arg12 X Y O W (60) (by omega) -∗ Q ⟨⟩)
      -∗ run d i (Scf.Loop.for k0_t3_loop k0_t3_ok ⟨⟩ (k0_t3_body i arg2 harg2 arg3 harg3 arg4 harg4 arg5 harg5 arg6 harg6 arg7 arg8 arg9 arg10 arg11 arg12 v3 v4)) Q) := by
  iintro #Hmw H HQ
  iapply (Scf.wp_for frame (wpE (defs₀ (F := F)) 𝒱₀ (thr d i) none) Set.univ k0_t3_loop.lb k0_t3_loop.ub k0_t3_loop.st k0_t3_ok ⟨⟩
    (k0_t3_body i arg2 harg2 arg3 harg3 arg4 harg4 arg5 harg5 arg6 harg6 arg7 arg8 arg9 arg10 arg11 arg12 v3 v4)
    (fun k _ => iprop(∃ h : 3 * k + 2 < 64, Transfers.MayWaits (thr d i) (default : HIx 1) O ∗ steady d i arg2 arg3 arg4 arg5 arg6 arg7 arg8 arg9 arg10 arg11 arg12 X Y O W (3 * k) h)) (fun k u => by
      have hk : k.val < 20 := trips_eq ▸ k.isLt
      unfold k0_t3_body
      simp only [wp_bind]
      iintro ⟨%h, #Hmw, H⟩
      iapply (run_trip d i arg2 harg2 arg3 harg3 arg4 harg4 arg5 harg5 arg6 harg6 arg7 arg8 arg9 arg10 arg11 arg12 v3 v4 0#32 1#32 k X Y O W (by omega)) $$ Hmw H
      iintro H
      rw [wp_pure]
      imodintro
      iexists (show 3 * (k.val + 1) + 2 < 64 by omega)
      isplitr [H]
      · iexact Hmw
      iexact H))
  isplitl [H]
  · iexists (show 3 * 0 + 2 < 64 by omega)
    isplitr [H]
    · iexact Hmw
    iexact H
  rw [show Scf.trips k0_t3_loop.lb k0_t3_loop.ub k0_t3_loop.st = 20 from trips_eq]
  iintro %u ⟨%h, #Hmw, H⟩
  iapply HQ $$ H

/-! ## Filling the pipeline -/

/-- What a subcore holds before it starts. -/
def ready (y₄ y₅ y₆ : Tile F) : sProp (𝕄 F) :=
  iprop(dues d i O W ∗ xs d i arg2 X 0 0 ∗ xs d i arg2 X 0 64 ∗ news d i arg3 X 0 0 ∗ olds d i arg3 Y 0 64
    ∗ stage d i arg4 y₄ ∗ stage d i arg5 y₅ ∗ stage d i arg6 y₆
    ∗ idle d i arg7.sem ∗ idle d i arg8.sem ∗ idle d i arg9.sem ∗ idle d i arg10.sem ∗ idle d i arg11.sem ∗ idle d i arg12.sem)

/-- What it holds with the second chunk clamped and still to be sent. -/
def filled : sProp (𝕄 F) :=
  iprop(dues d i O W ∗ xs d i arg2 X 0 2 ∗ xs d i arg2 X 3 64 ∗ news d i arg3 X 0 0 ∗ olds d i arg3 Y 1 64
    ∗ going d i arg3 X arg10.sem arg4 ⟨0, by omega⟩ ∗ stage d i arg5 (clamp (X ⟨1, by omega⟩)) ∗ coming d i arg2 X arg9.sem arg6 ⟨2, by omega⟩
    ∗ idle d i arg7.sem ∗ idle d i arg8.sem ∗ idle d i arg11.sem ∗ idle d i arg12.sem)

/-- The first three fetches and the first two chunks. -/
theorem run_fill (y₄ y₅ y₆ : Tile F) {Q : (Σ' (_ : BitVec 32), BitVec 32) → sProp (𝕄 F)} :
    Transfers.MayWaits (thr d i) (default : HIx 1) O ⊢ iprop(ready d i arg2 arg3 arg4 arg5 arg6 arg7 arg8 arg9 arg10 arg11 arg12 X Y O W y₄ y₅ y₆
      -∗ (∀ r, filled d i arg2 arg3 arg4 arg5 arg6 arg7 arg8 arg9 arg10 arg11 arg12 X Y O W -∗ Q r)
      -∗ run d i (k0_part31 i arg2 harg2 arg3 harg3 arg4 harg4 arg5 harg5 arg6 harg6 arg7 arg8 arg9 arg10 arg11 arg12) Q) := by
  rw [k0_part31_eq_skeleton]
  unfold k0_part31_skel ready
  simp only [run, wp_bind]
  iintro #Hmw ⟨HO, Hxd, Hxr, Hod, Hor, H4, H5, H6, Hs7, Hs8, Hs9, Hs10, Hs11, Hs12⟩ HQ
  iapply (run_fetch_next d i arg2 X 0 (by omega) arg4 _ arg7.sem (read_off i).1) $$ Hxr H4 Hs7
  iintro Hxr H4
  iapply (run_fetch_next d i arg2 X 1 (by omega) arg5 _ arg8.sem (read_off i).2.1) $$ Hxr H5 Hs8
  iintro Hxr H5
  iapply (run_arrive d i arg2 X O W 0 _ _ arg4 arg7.sem) $$ Hmw HO H4 Hxd
  iintro HO H4 Hs7 Hxd
  iapply (run_t1 d i arg2 harg2 arg3 harg3 arg4 harg4 arg5 harg5 arg6 harg6 arg7 arg8 arg9 arg10 arg11 arg12 _) $$ H4
  iintro H4
  iapply (run_flush_next d i arg3 X Y 0 _ arg4 arg10.sem (write_off i).1) $$ Hor H4 Hs10
  iintro Hor H4
  iapply (run_fetch_next d i arg2 X 2 (by omega) arg6 _ arg9.sem (read_off i).2.2.1) $$ Hxr H6 Hs9
  iintro Hxr H6
  iapply (run_arrive d i arg2 X O W 1 _ _ arg5 arg8.sem) $$ Hmw HO H5 Hxd
  iintro HO H5 Hs8 Hxd
  iapply (run_t2 d i arg2 harg2 arg3 harg3 arg4 harg4 arg5 harg5 arg6 harg6 arg7 arg8 arg9 arg10 arg11 arg12 _) $$ H5
  iintro H5
  rw [wp_pure]
  imodintro
  iapply HQ
  unfold filled
  isplitl [HO]; · iexact HO
  isplitl [Hxd]; · iexact Hxd
  isplitl [Hxr]; · iexact Hxr
  isplitl [Hod]; · iexact Hod
  isplitl [Hor]; · iexact Hor
  isplitl [H4]; · iexact H4
  isplitl [H5]; · iexact H5
  isplitl [H6]; · iexact H6
  isplitl [Hs7]; · iexact Hs7
  isplitl [Hs8]; · iexact Hs8
  isplitl [Hs11]; · iexact Hs11
  iexact Hs12

/-! ## Draining it -/

/-- What a subcore holds with only the last chunk still to be sent. -/
def emptied : sProp (𝕄 F) :=
  iprop(dues d i O W ∗ xs d i arg2 X 0 64 ∗ news d i arg3 X 0 61 ∗ olds d i arg3 Y 63 64
    ∗ stage d i arg4 (clamp (X ⟨63, by omega⟩)) ∗ going d i arg3 X arg11.sem arg5 ⟨61, by omega⟩ ∗ going d i arg3 X arg12.sem arg6 ⟨62, by omega⟩
    ∗ idle d i arg7.sem ∗ idle d i arg8.sem ∗ idle d i arg9.sem ∗ idle d i arg10.sem)

/-- From the second chunk's sending to the last chunk clamped. -/
theorem run_middle {Q : PUnit → sProp (𝕄 F)} :
    Transfers.MayWaits (thr d i) (default : HIx 1) O ⊢ iprop(filled d i arg2 arg3 arg4 arg5 arg6 arg7 arg8 arg9 arg10 arg11 arg12 X Y O W
      -∗ (emptied d i arg2 arg3 arg4 arg5 arg6 arg7 arg8 arg9 arg10 arg11 arg12 X Y O W -∗ Q ⟨⟩)
      -∗ run d i (k0_part32 i arg2 harg2 arg3 harg3 arg4 harg4 arg5 harg5 arg6 harg6 arg7 arg8 arg9 arg10 arg11 arg12 v3 v4) Q) := by
  rw [k0_part32_eq_skeleton]
  unfold k0_part32_skel filled
  simp only [run, wp_bind]
  iintro #Hmw ⟨HO, Hxd, Hxr, Hod, Hor, H4, H5, H6, Hs7, Hs8, Hs11, Hs12⟩ HQ
  iapply (run_flush_next d i arg3 X Y 1 _ arg5 arg11.sem (write_off i).2.1) $$ Hor H5 Hs11
  iintro Hor H5
  iapply (run_loop d i arg2 harg2 arg3 harg3 arg4 harg4 arg5 harg5 arg6 harg6 arg7 arg8 arg9 arg10 arg11 arg12 v3 v4 X Y O W) $$ Hmw [HO Hxd Hxr Hod Hor H4 H5 H6 Hs7 Hs8 Hs12]
  · unfold steady
    isplitl [HO]; · iexact HO
    isplitl [Hxd]; · iexact Hxd
    isplitl [Hxr]; · iexact Hxr
    isplitl [Hod]; · iexact Hod
    isplitl [Hor]; · iexact Hor
    isplitl [H4]; · iexact H4
    isplitl [H5]; · iexact H5
    isplitl [H6]; · iexact H6
    isplitl [Hs7]; · iexact Hs7
    isplitl [Hs8]; · iexact Hs8
    iexact Hs12
  unfold steady
  iintro ⟨HO, Hxd, Hxr, Hod, Hor, H4, H5, H6, Hs7, Hs8, Hs12⟩
  iapply (run_drain_next d i arg3 X O W 60 _ _ arg4 arg10.sem) $$ Hmw HO H4 Hod
  iintro HO H4 Hs10 Hod
  iapply (run_fetch_next d i arg2 X 63 (by omega) arg4 _ arg7.sem (read_off i).2.2.2) $$ Hxr H4 Hs7
  iintro Hxr H4
  iapply (run_arrive d i arg2 X O W 62 _ _ arg6 arg9.sem) $$ Hmw HO H6 Hxd
  iintro HO H6 Hs9 Hxd
  iapply (run_t7 d i arg2 harg2 arg3 harg3 arg4 harg4 arg5 harg5 arg6 harg6 arg7 arg8 arg9 arg10 arg11 arg12 v3 v4 _) $$ H6
  iintro H6
  iapply (run_flush_next d i arg3 X Y 62 _ arg6 arg12.sem (write_off i).2.2.1) $$ Hor H6 Hs12
  iintro Hor H6
  iapply (run_arrive d i arg2 X O W 63 _ _ arg4 arg7.sem) $$ Hmw HO H4 Hxd
  iintro HO H4 Hs7 Hxd
  iapply (run_t8 d i arg2 harg2 arg3 harg3 arg4 harg4 arg5 harg5 arg6 harg6 arg7 arg8 arg9 arg10 arg11 arg12 v3 v4 _) $$ H4
  iintro H4
  rw [wp_pure]
  imodintro
  iapply HQ
  unfold emptied
  isplitl [HO]; · iexact HO
  isplitl [Hxd]; · iexact Hxd
  isplitl [Hod]; · iexact Hod
  isplitl [Hor]; · iexact Hor
  isplitl [H4]; · iexact H4
  isplitl [H5]; · iexact H5
  isplitl [H6]; · iexact H6
  isplitl [Hs7]; · iexact Hs7
  isplitl [Hs8]; · iexact Hs8
  isplitl [Hs9]; · iexact Hs9
  iexact Hs10

/-! ## The whole of it -/

/-- What a subcore holds when it is done: its operand untouched, every chunk of its result clamped. -/
def done : sProp (𝕄 F) :=
  iprop(dues d i O W ∗ xs d i arg2 X 0 64 ∗ news d i arg3 X 0 64
    ∗ stage d i arg4 (clamp (X ⟨63, by omega⟩)) ∗ stage d i arg5 (clamp (X ⟨61, by omega⟩)) ∗ stage d i arg6 (clamp (X ⟨62, by omega⟩))
    ∗ idle d i arg7.sem ∗ idle d i arg8.sem ∗ idle d i arg9.sem ∗ idle d i arg10.sem ∗ idle d i arg11.sem ∗ idle d i arg12.sem)

theorem run_tile (y₄ y₅ y₆ : Tile F) {Q : PUnit → sProp (𝕄 F)} :
    Transfers.MayWaits (thr d i) (default : HIx 1) O ⊢ iprop(ready d i arg2 arg3 arg4 arg5 arg6 arg7 arg8 arg9 arg10 arg11 arg12 X Y O W y₄ y₅ y₆
      -∗ (done d i arg2 arg3 arg4 arg5 arg6 arg7 arg8 arg9 arg10 arg11 arg12 X O W -∗ Q ⟨⟩)
      -∗ run d i (cc0_k i arg2 harg2 arg3 harg3 arg4 harg4 arg5 harg5 arg6 harg6 arg7 arg8 arg9 arg10 arg11 arg12) Q) := by
  rw [cc0_k_eq_skeleton]
  unfold cc0_k_skel
  simp only [run, wp_bind]
  iintro #Hmw H HQ
  iapply (run_fill d i arg2 harg2 arg3 harg3 arg4 harg4 arg5 harg5 arg6 harg6 arg7 arg8 arg9 arg10 arg11 arg12 X Y O W y₄ y₅ y₆) $$ Hmw H
  iintro %r H
  iapply (run_middle d i arg2 harg2 arg3 harg3 arg4 harg4 arg5 harg5 arg6 harg6 arg7 arg8 arg9 arg10 arg11 arg12 r.1 r.2 X Y O W) $$ Hmw H
  unfold emptied
  iintro ⟨HO, Hxd, Hod, Hor, H4, H5, H6, Hs7, Hs8, Hs9, Hs10⟩
  iapply (run_flush_next d i arg3 X Y 63 _ arg4 arg10.sem (write_off i).2.2.2) $$ Hor H4 Hs10
  iintro Hor H4
  iapply (run_drain d i arg3 X O W _ _ arg4 arg10.sem) $$ Hmw HO H4
  iintro HO H4 Hs10 Hlast
  iapply (run_drain_next d i arg3 X O W 61 _ _ arg5 arg11.sem) $$ Hmw HO H5 Hod
  iintro HO H5 Hs11 Hod
  iapply (run_drain_next d i arg3 X O W 62 _ _ arg6 arg12.sem) $$ Hmw HO H6 Hod
  iintro HO H6 Hs12 Hod
  rw [wp_pure]
  imodintro
  iapply HQ
  unfold done
  isplitl [HO]; · iexact HO
  isplitl [Hxd]; · iexact Hxd
  isplitl [Hod Hlast]
  · iapply (show iprop(news d i arg3 X 0 63 ∗ newAt d i arg3 X ⟨63, by omega⟩) ⊢ news d i arg3 X 0 64 from
      take_in (newAt d i arg3 X) 63 (by omega))
    isplitl [Hod]; · iexact Hod
    iexact Hlast
  isplitl [H4]; · iexact H4
  isplitl [H5]; · iexact H5
  isplitl [H6]; · iexact H6
  isplitl [Hs7]; · iexact Hs7
  isplitl [Hs8]; · iexact Hs8
  isplitl [Hs9]; · iexact Hs9
  isplitl [Hs10]; · iexact Hs10
  isplitl [Hs11]; · iexact Hs11
  iexact Hs12

end Cert.Proof

end
-- ==== Proof.Split.lean ====
/-
  The two arrays of 32768 rows as the chunks of the 32 subcores: 2048 chunks of sixteen rows, each row in exactly one.
-/
module

public import proofs.«01_k».proof.Proof.Tile
public import Idealize.ShloMosaic.Lib.Memref

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Ring (rangeSet rangeSet_univ bigSep_rangeSet_head bigSep_rangeSet_last bigSep_rangeSet_empty)

variable {F : FTy → Type} [FloatOps F]

/-- The grid point of subcore `s` of SparseCore `c`. -/
def point (c : Fin 2) (s : Fin 16) : grid0.Coords :=
  fun | 0 => c | 1 => s | ⟨_ + 2, h⟩ => absurd h (Nat.not_lt.2 (Nat.le_add_left _ _))

/-- A chunk: the SparseCore, the subcore, and its number there. -/
abbrev Place : Type := Fin 2 × Fin 16 × Fin 64

/-- The rows of a chunk. -/
abbrev place (p : Place) : Rect S32768x2048 :=
  Rect.unit (s := S32768x2048) (chunkOff (point p.1 p.2.1) p.2.2.val) S16x2048.size (chunkOff_inb _ _ p.2.2.isLt)

theorem place_disjoint (p p' : Place) (h : p ≠ p') : Disjoint (place p).set (place p').set := by
  obtain ⟨c, s, t⟩ := p
  obtain ⟨c', s', t'⟩ := p'
  refine Rect.unit_disjoint 0 ?_
  show 2048 * s.val + 1024 * c.val + 16 * t.val + 16 ≤ 2048 * s'.val + 1024 * c'.val + 16 * t'.val
    ∨ 2048 * s'.val + 1024 * c'.val + 16 * t'.val + 16 ≤ 2048 * s.val + 1024 * c.val + 16 * t.val
  by_contra hn
  refine h ?_
  have hs : s = s' := Fin.ext (by omega)
  have hc : c = c' := Fin.ext (by omega)
  have ht : t = t' := Fin.ext (by omega)
  rw [hs, hc, ht]

theorem place_cover : (Finset.univ : Finset Place).biUnion (fun p => (place p).set) = Finset.univ := by
  refine Finset.eq_univ_iff_forall.mpr fun x => ?_
  have h0 : (x 0).val < 32768 := (x 0).isLt
  have h1 : (x 1).val < 2048 := (x 1).isLt
  let p : Place := (⟨(x 0).val / 1024 % 2, by omega⟩, ⟨(x 0).val / 2048, by omega⟩, ⟨(x 0).val / 16 % 64, by omega⟩)
  have hp : x ∈ (place p).set := Rect.mem_set_unit.mpr fun a => match a with
    | 0 => by
      show 2048 * ((x 0).val / 2048) + 1024 * ((x 0).val / 1024 % 2) + 16 * ((x 0).val / 16 % 64) ≤ (x 0).val
        ∧ (x 0).val < 2048 * ((x 0).val / 2048) + 1024 * ((x 0).val / 1024 % 2) + 16 * ((x 0).val / 16 % 64) + 16
      omega
    | 1 => by
      show 0 ≤ (x 1).val ∧ (x 1).val < 0 + 2048
      omega
  rw [Finset.mem_biUnion]
  exact ⟨p, Finset.mem_univ p, hp⟩

/-- The values of one array. -/
abbrev Grid (F : FTy → Type) : Type := S32768x2048.Idx → Elt F .f32

/-- Those of chunk `t` of subcore `i`. -/
def part (g : Grid F) (i : grid0.Coords) (t : Fin 64) : Tile F := fun j =>
  g ((Rect.unit (s := S32768x2048) (chunkOff i t.val) S16x2048.size (chunkOff_inb i t.val t.isLt)).emb j)

/-- Every value clamped. -/
def clampAll (g : Grid F) : Grid F := fun j => min1 (g j)

theorem clamp_part (g : Grid F) (i : grid0.Coords) (t : Fin 64) : clamp (part g i t) = part (clampAll g) i t := rfl

abbrev inV : Rows := Memref.whole main_v0_scv
abbrev outV : Rows := Memref.whole main_v1_scv

omit [FloatOps F] in
/-- The operand, whole, is its chunks. -/
theorem in_chunks (d : Dev nD) (g : Grid F) :
    (((SparseCore.T d).loc main_v0 ↦{fullShare} g : sProp (𝕄 F)))
      = bigSep Finset.univ fun c : Fin 2 => bigSep Finset.univ fun s : Fin 16 => bigSep (rangeSet 64 0 64) fun t : Fin 64 =>
          chunk d (point c s) (chunkAt inV (point c s) t) (part g (point c s) t) := by
  have h := pointsTo_rects (Ix := HIx 1) (Val := Elt F) (Name := ℕ) (U := UU) (Lvl := ℕ) (thr d (point 0 0)) inV fullShare place (fun _ _ => rfl) place_disjoint place_cover g
  rw [show (inV).view.set = Finset.univ from View.set_whole _] at h
  simp only [bigSep_univ_prod] at h
  rw [rangeSet_univ]
  exact h

omit [FloatOps F] in
/-- The result, whole, is its chunks. -/
theorem out_chunks (d : Dev nD) (g : Grid F) :
    (((SparseCore.T d).loc main_v1 ↦{fullShare} g : sProp (𝕄 F)))
      = bigSep Finset.univ fun c : Fin 2 => bigSep Finset.univ fun s : Fin 16 => bigSep (rangeSet 64 0 64) fun t : Fin 64 =>
          chunk d (point c s) (chunkAt outV (point c s) t) (part g (point c s) t) := by
  have h := pointsTo_rects (Ix := HIx 1) (Val := Elt F) (Name := ℕ) (U := UU) (Lvl := ℕ) (thr d (point 0 0)) outV fullShare place (fun _ _ => rfl) place_disjoint place_cover g
  rw [show (outV).view.set = Finset.univ from View.set_whole _] at h
  simp only [bigSep_univ_prod] at h
  rw [rangeSet_univ]
  exact h

end Cert.Proof

end
-- ==== Proof.Task.lean ====
/-
  The kernel on one vector subcore, from what the launch hands it: its chunks of the two arrays, its own three staging
  buffers at any contents and its own semaphores at zero. It hands all of it back, its chunks of the result clamped.
-/
module

public import proofs.«01_k».proof.Proof.Band
public import proofs.«01_k».proof.Proof.Split

@[expose] public section

noncomputable section

namespace Cert.Proof

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Ring (rangeSet rangeSet_univ bigSep_rangeSet_head bigSep_rangeSet_last bigSep_rangeSet_empty)

variable {F : FTy → Type} [FloatOps F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## A subcore's own semaphores and buffers -/

/-- The kernel's six semaphores. -/
def kernelSems : Finset (DmaSem sig) :=
  {cc0_scratch3.sem, cc0_scratch4.sem, cc0_scratch5.sem, cc0_scratch6.sem, cc0_scratch7.sem, cc0_scratch8.sem}

/-- Its three staging buffers. -/
def kernelBufs : Finset (Ref sig .scVector) := {cc0_scratch0, cc0_scratch1, cc0_scratch2}

omit [FloatOps F] in
/-- A conjunction over a set, parted by the members that an embedding names. -/
theorem parted {I J : Type} [DecidableEq I] {s : Finset I} (t : Finset J) (e : J ↪ I) (h : ∀ j ∈ t, e j ∈ s) {Φ : I → sProp (𝕄 F)} :
    ∃ R, bigSep s Φ = iprop(bigSep t (fun j => Φ (e j)) ∗ R) := by
  rw [← bigSep_map e]
  exact ⟨_, bigSep_sdiff_split fun x hx => by
    obtain ⟨j, hj, rfl⟩ := Finset.mem_map.mp hx
    exact h j hj⟩

omit [FloatOps F] in
/-- The six semaphores at zero, out of all the subcore's. -/
theorem own_sems (d : Dev nD) (i : grid0.Coords) :
    ∃ R : sProp (𝕄 F), ownSems0 (thr d i)
      = iprop((idle d i cc0_scratch3.sem ∗ idle d i cc0_scratch4.sem ∗ idle d i cc0_scratch5.sem ∗ idle d i cc0_scratch6.sem ∗ idle d i cc0_scratch7.sem ∗ idle d i cc0_scratch8.sem) ∗ R) := by
  let e : DmaSem sig ↪ GSem nD τ sig := ⟨fun s => (thr d i, .dma s), fun _ _ h => SemLoc.dma.inj (congrArg Prod.snd h)⟩
  have own : ∀ s ∈ kernelSems, ((thr d i, .dma s) : GSem nD τ sig) ∈ ownCells (thr d i) := fun s hs =>
    mem_ownCells.mpr ⟨rfl, (show ∀ s ∈ kernelSems, (SemLoc.dma s : SemLoc sig).isScoped .scVector = true by decide) s hs⟩
  obtain ⟨R, hR⟩ := parted (F := F) kernelSems e own (Φ := fun c => semVal c 0)
  refine ⟨R, hR.trans ?_⟩
  unfold kernelSems
  rw [SparseCore.bigSep_insert' (by decide), SparseCore.bigSep_insert' (by decide), SparseCore.bigSep_insert' (by decide), SparseCore.bigSep_insert' (by decide), SparseCore.bigSep_insert' (by decide), bigSep_singleton]
  rfl

omit [FloatOps F] in
/-- The three staging buffers at some contents, out of all the subcore's. -/
theorem own_bufs (d : Dev nD) (i : grid0.Coords) :
    ∃ R : sProp (𝕄 F), ownBufs (thr d i)
      = iprop(((∃ y : Tile F, stage d i (Memref.whole cc0_scratch0) y) ∗ (∃ y : Tile F, stage d i (Memref.whole cc0_scratch1) y) ∗ (∃ y : Tile F, stage d i (Memref.whole cc0_scratch2) y)) ∗ R) := by
  let e : Ref sig .scVector ↪ DevRef τ sig := ⟨(Proc.scVector (cV i) (jV i)).devRef, Proc.devRef_injective _⟩
  have own : ∀ b ∈ kernelBufs, (Proc.scVector (cV i) (jV i)).devRef b ∈ ownRefs (τ := τ) (.scVector (cV i) (jV i)) := fun b hb => by
    simp only [kernelBufs, Finset.mem_insert, Finset.mem_singleton] at hb
    rcases hb with rfl | rfl | rfl <;> exact SparseCore.Cfg.mem_ownRefs_of_owner rfl
  obtain ⟨R, hR⟩ := parted (F := F) kernelBufs e own (Φ := fun b => iprop(∃ f, ((d, b) : Loc nD τ sig) ↦{fullShare} f))
  refine ⟨R, hR.trans ?_⟩
  unfold kernelBufs stage
  rw [SparseCore.bigSep_insert' (by decide), SparseCore.bigSep_insert' (by decide), bigSep_singleton]
  simp only [owns_whole]
  rfl

/-! ## The task -/

/-- What a subcore is handed of the two arrays: its chunks of the operand, whose values are `g`, and of the result, whatever
    that held. -/
def handed (d : Dev nD) (i : grid0.Coords) (g w : Grid F) : sProp (𝕄 F) :=
  iprop(xs d i inV (part g i) 0 64 ∗ olds d i outV (part w i) 0 64)

/-- What it hands back: the same of the operand, and its chunks of the result clamped. -/
def returned (d : Dev nD) (i : grid0.Coords) (g : Grid F) : sProp (𝕄 F) :=
  iprop(xs d i inV (part g i) 0 64 ∗ news d i outV (part g i) 0 64)

omit [FloatOps F] in
/-- No chunk at all: nothing. -/
theorem none_yet (Φ : Fin 64 → sProp (𝕄 F)) : (iprop(emp) : sProp (𝕄 F)) ⊢ bigSep (rangeSet 64 0 0) Φ :=
  Entails.of_eq (bigSep_rangeSet_empty (le_refl 0)).symm

theorem run_task (d : Dev nD) (i : grid0.Coords) (g w : Grid F) (O : CellTallies nD τ sig (HIx 1)) (W : Waits sig (HIx 1))
    (hO : ∀ c, O c none = 0) :
    iprop(levAts (K (F := F)).L (K (F := F)).lev ∗ emp ∗ handed d i g w
        ∗ scopedBufs (thr d i) ∗ scopedSems0 (thr d i) ∗ owes (thr d i) O W)
      ⊢ run d i (cc0_k (F := F) i inV (Memref.isWhole_whole _) outV (Memref.isWhole_whole _)
            (Memref.whole cc0_scratch0) (Memref.isWhole_whole _) (Memref.whole cc0_scratch1) (Memref.isWhole_whole _) (Memref.whole cc0_scratch2) (Memref.isWhole_whole _)
            cc0_scratch3 cc0_scratch4 cc0_scratch5 cc0_scratch6 cc0_scratch7 cc0_scratch8)
          fun _ => iprop(returned d i g ∗ scopedBufs (thr d i) ∗ scopedSems0 (thr d i)
            ∗ ∃ W', ⌜∀ p ∈ W', p ∈ W ∨ p.2 = none⌝ ∗ owes (thr d i) O W') := by
  obtain ⟨R, hR⟩ := own_sems (F := F) d i
  obtain ⟨R', hR'⟩ := own_bufs (F := F) d i
  rw [(K (F := F)).scopedBufs_V facts d (cV i) (jV i), SparseCore.Cfg.scopedSems0_V (Val := Elt F) d (cV i) (jV i), hR, hR']
  unfold handed returned
  iintro ⟨#Hlv, -, ⟨Hx, Ho⟩, ⟨⟨⟨%y₄, H4⟩, ⟨%y₅, H5⟩, ⟨%y₆, H6⟩⟩, Hbufs⟩, ⟨⟨Hs7, Hs8, Hs9, Hs10, Hs11, Hs12⟩, Hsems⟩, HO⟩
  ihave Hmw := (show levAts (K (F := F)).L (K (F := F)).lev ⊢ Transfers.MayWaits (thr d i) (default : HIx 1) O from
    (K (F := F)).mayWaits_none (thr := thr d i) hO) $$ Hlv
  iapply (run_tile d i inV (Memref.isWhole_whole _) outV (Memref.isWhole_whole _)
            (Memref.whole cc0_scratch0) (Memref.isWhole_whole _) (Memref.whole cc0_scratch1) (Memref.isWhole_whole _) (Memref.whole cc0_scratch2) (Memref.isWhole_whole _)
            cc0_scratch3 cc0_scratch4 cc0_scratch5 cc0_scratch6 cc0_scratch7 cc0_scratch8 (part g i) (part w i) O W y₄ y₅ y₆) $$ Hmw [Hx Ho H4 H5 H6 Hs7 Hs8 Hs9 Hs10 Hs11 Hs12 HO]
  · unfold ready dues
    isplitl [HO]
    · iexists W
      isplitr
      · ipureintro; exact fun p hp => Or.inl hp
      iexact HO
    isplitl []
    · unfold xs
      iapply (none_yet (xAt d i inV (part g i)))
      iempintro
    isplitl [Hx]; · iexact Hx
    isplitl []
    · unfold news
      iapply (none_yet (newAt d i outV (part g i)))
      iempintro
    isplitl [Ho]; · iexact Ho
    isplitl [H4]; · iexact H4
    isplitl [H5]; · iexact H5
    isplitl [H6]; · iexact H6
    isplitl [Hs7]; · iexact Hs7
    isplitl [Hs8]; · iexact Hs8
    isplitl [Hs9]; · iexact Hs9
    isplitl [Hs10]; · iexact Hs10
    isplitl [Hs11]; · iexact Hs11
    iexact Hs12
  unfold done dues
  iintro ⟨HO, Hx, Ho, H4, H5, H6, Hs7, Hs8, Hs9, Hs10, Hs11, Hs12⟩
  isplitl [Hx Ho]
  · isplitl [Hx]; · iexact Hx
    iexact Ho
  isplitl [H4 H5 H6 Hbufs]
  · isplitl [H4 H5 H6]
    · isplitl [H4]; · iexists _; iexact H4
      isplitl [H5]; · iexists _; iexact H5
      iexists _; iexact H6
    iexact Hbufs
  isplitl [Hs7 Hs8 Hs9 Hs10 Hs11 Hs12 Hsems]
  · isplitl [Hs7 Hs8 Hs9 Hs10 Hs11 Hs12]
    · isplitl [Hs7]; · iexact Hs7
      isplitl [Hs8]; · iexact Hs8
      isplitl [Hs9]; · iexact Hs9
      isplitl [Hs10]; · iexact Hs10
      isplitl [Hs11]; · iexact Hs11
      iexact Hs12
    iexact Hsems
  iexact HO

end Cert.Proof

end
-- ==== Proof.Launch.lean ====
/-
  The whole run: the operand is reshaped to 32768 rows, each SparseCore's subcores clamp their bands, and the result is
  reshaped back. Every value of the result is the operand's of the same position, clamped; the operand is unchanged; every
  semaphore ends at zero. Proved once, over any number system the program is read in.
-/
module

public import proofs.«01_k».proof.Proof.Task

@[expose] public section

noncomputable section

namespace Cert.Proof

open Cert.KernelIdeal Cert.KernelIdeal.Gen
open Idealize.ShloMosaic
open Idealize.ShloMosaic.SparseCore.Cfg (HIx)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt F) ℓ) (ρ : Dev nD → PrngReg)

/-! ## The arrays -/

abbrev aLoc (d : Dev nD) : Loc nD τ sig := (SparseCore.T d).loc main_arg0
abbrev inLoc (d : Dev nD) : Loc nD τ sig := (SparseCore.T d).loc main_v0
abbrev outLoc (d : Dev nD) : Loc nD τ sig := (SparseCore.T d).loc main_v1
abbrev rLoc (d : Dev nD) : Loc nD τ sig := (SparseCore.T d).loc main_v2

/-- The values of the program's argument, and of its result. -/
abbrev Cube (F : FTy → Type) : Type := S4x8192x2048.Idx → Elt F .f32

/-- The argument at launch. -/
abbrev arg (d : Dev nD) : Cube F := m (aLoc d)

/-- The argument as 32768 rows. -/
def flat (d : Dev nD) : Grid F := shapeCast S32768x2048 (arg m d) shapeCasts_S4x8192x2048_S32768x2048

/-- The result: every value of the argument clamped. -/
def clampCube (x : Cube F) : Cube F := fun j => min1 (x j)

theorem unflat (d : Dev nD) :
    shapeCast S4x8192x2048 (clampAll (flat m d)) shapeCasts_S32768x2048_S4x8192x2048 = clampCube (arg m d) := by
  have h : shapeCast S4x8192x2048 (flat m d) shapeCasts_S32768x2048_S4x8192x2048 = arg m d := by
    unfold flat
    rw [shapeCast_shapeCast]
  exact funext fun j => congrArg min1 (congrFun h j)

/-! ## What the call carries -/

/-- SparseCore `c`'s part of the call's operands: its sixteen subcores'. -/
def coreIn (d : Dev nD) (c : Fin 2) : sProp (𝕄 F) :=
  bigSep Finset.univ fun s : Fin 16 => handed d (point c s) (flat m d) (m (outLoc d))
/-- Its part of what comes back. -/
def coreOut (d : Dev nD) (c : Fin 2) : sProp (𝕄 F) :=
  bigSep Finset.univ fun s : Fin 16 => returned d (point c s) (flat m d)

def P : (K (F := F)).Pay (nD := nD) (Val := Elt F) (Name := ℕ) (U := UU) where
  st := fun q d c => match q with | 0 => coreIn m d c
  dn := fun q d c => match q with | 0 => coreOut m d c
  go := fun q d c s => match q with | 0 => handed d (point c s) (flat m d) (m (outLoc d))
  td := fun q d c s => match q with | 0 => returned d (point c s) (flat m d)
  x := fun _ _ => iprop(emp)

instance handed_storable (d : Dev nD) (i : grid0.Coords) (g w : Grid F) :
    BI.Storable (upEmb : UEmb _ (𝕄 F)) (handed d i g w) := by
  unfold handed xs olds; infer_instance
instance returned_storable (d : Dev nD) (i : grid0.Coords) (g : Grid F) :
    BI.Storable (upEmb : UEmb _ (𝕄 F)) (returned d i g) := by
  unfold returned xs news; infer_instance
instance coreIn_storable (d : Dev nD) (c : Fin 2) : BI.Storable (upEmb : UEmb _ (𝕄 F)) (coreIn m d c) := by
  unfold coreIn; infer_instance
instance coreOut_storable (d : Dev nD) (c : Fin 2) : BI.Storable (upEmb : UEmb _ (𝕄 F)) (coreOut m d c) := by
  unfold coreOut; infer_instance

instance P_storable : (P (F := F) m).IsStorable where
  st q d c := match q with | 0 => coreIn_storable m d c
  dn q d c := match q with | 0 => coreOut_storable m d c
  go q d c s := match q with | 0 => handed_storable d (point c s) (flat m d) (m (outLoc d))
  td q d c s := match q with | 0 => returned_storable d (point c s) (flat m d)

/-! ## The subcores' obligation -/

theorem defs₀_vector (c : Fin τ.nSC) (s : Fin τ.nSub) :
    defs₀ (F := F) (.scVector c s) 0 ()
      = SparseCore.onTile hcore0 hsub0 (fun c s => cc0_k (F := F) (point c s) inV (Memref.isWhole_whole _) outV (Memref.isWhole_whole _)
          (Memref.whole cc0_scratch0) (Memref.isWhole_whole _) (Memref.whole cc0_scratch1) (Memref.isWhole_whole _)
          (Memref.whole cc0_scratch2) (Memref.isWhole_whole _)
          cc0_scratch3 cc0_scratch4 cc0_scratch5 cc0_scratch6 cc0_scratch7 cc0_scratch8) ⟨⟩ c s := rfl

omit [FloatOps F] in
/-- A wait recorded by a task is one of those the launch allows. -/
theorem allowed {t : Thread nD τ} {A B C : sProp (𝕄 F)} {W : Waits sig (HIx 1)} {O : CellTallies nD τ sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %h, HO⟩
  isplitl [HA]; · iexact HA
  isplitl [HB]; · iexact HB
  isplitl [HC]; · iexact HC
  iexists W'
  isplitr
  · ipureintro; exact fun p hp => (h p hp).imp_right Or.inl
  iexact HO

set_option maxRecDepth 16384 in
theorem tileObl : (K (F := F)).TileObl (D (F := F)) 𝒱 (P m) v₀ 0 := by
  intro d c s O W hO _ _
  simp only [show (P m).ox = fun _ _ => 0 from rfl, add_zero]
  have hcs : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]
  simp only [SparseCore.onTile, hcs, and_self, ↓reduceDIte]
  exact (run_task d (point ⟨_, hcs.1⟩ ⟨_, hcs.2⟩) (flat m d) (m (outLoc d)) O W hO).trans (wp_mono frame _ _ fun _ => allowed)

theorem vecSplit : (K (F := F)).VecSplit' (P m) 0 := by
  intro d c
  show coreIn m d c ⊢ |={Set.univ}=> iprop(coreIn m d c ∗ (coreOut m d c -∗ coreOut m d c))
  iintro H
  imodintro
  isplitl [H]; · iexact H
  iintro H
  iexact H

/-! ## The arrays, dealt and gathered -/

/-- Both arrays, whole, are what the two SparseCores are handed; -/
theorem deal (d : Dev nD) :
    iprop((inLoc d ↦{fullShare} flat m d) ∗ (outLoc d ↦{fullShare} m (outLoc d)))
      = (bigSep Finset.univ fun c : Fin ((K (F := F)).nCore 0) => (P m).st 0 d c : sProp (𝕄 F)) := by
  show _ = bigSep Finset.univ fun c : Fin 2 => coreIn m d c
  rw [in_chunks, out_chunks]
  simp only [coreIn, handed, xs, olds, bigSep_sep']
/-- and what they hand back is both arrays, the result clamped. -/
theorem gather (d : Dev nD) :
    (bigSep Finset.univ fun c : Fin ((K (F := F)).nCore 0) => (P m).dn 0 d c : sProp (𝕄 F))
      = iprop((inLoc d ↦{fullShare} flat m d) ∗ (outLoc d ↦{fullShare} clampAll (flat m d))) := by
  show (bigSep Finset.univ fun c : Fin 2 => coreOut m d c) = _
  rw [in_chunks, out_chunks]
  simp only [coreOut, returned, xs, news, bigSep_sep']
  rfl

/-! ## The launch's own state -/

def u₀ : UU := (initOf (K (F := F)).hsCells (K (F := F)).hsToks, 1)

omit [FloatOps F] in
/-- Nothing for each of any number of threads is nothing. -/
theorem nothing {I : Type} (s : Finset I) : (bigSep s fun _ => iprop(emp)) = (iprop(emp) : sProp (𝕄 F)) := bigSep_emp_const s

theorem hu₀ : (ownU (u₀ (F := F)) : sProp (𝕄 F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr
  · rw [nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing]
  iempintro

/-! ## The program on the TensorCore -/

abbrev a' : DevRef τ sig := Proc.devRef .tc (main_arg0 : Ref sig .tc)
abbrev in' : DevRef τ sig := Proc.devRef .tc (main_v0 : Ref sig .tc)
abbrev out' : DevRef τ sig := Proc.devRef .tc (main_v1 : Ref sig .tc)
abbrev r' : DevRef τ sig := Proc.devRef .tc (main_v2 : Ref sig .tc)

abbrev opIn : HloOp τ sig (Elt F) :=
  StableHlo.reshape main_arg0 main_v0 (rfl : (.f32 : EltTy) = .f32) shapeCasts_S4x8192x2048_S32768x2048
abbrev opOut : HloOp τ sig (Elt F) :=
  StableHlo.reshape main_v1 main_v2 (rfl : (.f32 : EltTy) = .f32) shapeCasts_S32768x2048_S4x8192x2048

/-- The program's four arrays. -/
abbrev arrays : Finset (DevRef τ sig) := {a', in', out', r'}

omit [FloatOps F] in
theorem held_arrays (d : Dev nD) (V : Valuation τ sig (Elt F)) :
    (held (SparseCore.T d) arrays V : sProp (𝕄 F))
      = iprop((aLoc d ↦{fullShare} V a') ∗ (inLoc d ↦{fullShare} V in') ∗ (outLoc d ↦{fullShare} V out') ∗ rLoc d ↦{fullShare} V r') := by
  unfold held arrays
  rw [SparseCore.bigSep_insert' (by decide), SparseCore.bigSep_insert' (by decide), SparseCore.bigSep_insert' (by decide), bigSep_singleton]

/-- The arrays at launch. -/
def V0 (d : Dev nD) : Valuation τ sig (Elt F) := fun b => m (d, b)

omit [FloatOps F] in
theorem launch_held (d : Dev nD) :
    (unscopedBufs d (fun b => m ((SparseCore.T d).loc b)) : sProp (𝕄 F)) = held (SparseCore.T d) arrays (V0 m d) := by
  rw [held_arrays]
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]
  rfl

/-- The arrays before the call: the operand flattened. -/
theorem held_in (d : Dev nD) :
    (held (SparseCore.T d) arrays ((opIn (F := F)).result (V0 m d)) : sProp (𝕄 F))
      = iprop((aLoc d ↦{fullShare} arg m d) ∗ (inLoc d ↦{fullShare} flat m d) ∗ (outLoc d ↦{fullShare} m (outLoc d)) ∗ rLoc d ↦{fullShare} m (rLoc d)) := by
  rw [held_arrays, (opIn (F := F)).result_of_not_mem (V0 m d) (b := a') (show a' ∉ ({in'} : Finset (DevRef τ sig)) by decide),
    (opIn (F := F)).result_of_not_mem (V0 m d) (b := out') (show out' ∉ ({in'} : Finset (DevRef τ sig)) by decide),
    (opIn (F := F)).result_of_not_mem (V0 m d) (b := r') (show r' ∉ ({in'} : Finset (DevRef τ sig)) by decide),
    show (opIn (F := F)).result (V0 m d) in' = flat m d from StableHlo.reshape_result _ _ _ _ _ _ _]
  rfl

/-- The arrays after the call. -/
def V1 (d : Dev nD) : Valuation τ sig (Elt F) := Function.update ((opIn (F := F)).result (V0 m d)) out' (clampAll (flat m d))

theorem held_call (d : Dev nD) :
    (held (SparseCore.T d) arrays (V1 m d) : sProp (𝕄 F))
      = iprop((aLoc d ↦{fullShare} arg m d) ∗ (inLoc d ↦{fullShare} flat m d) ∗ (outLoc d ↦{fullShare} clampAll (flat m d)) ∗ rLoc d ↦{fullShare} m (rLoc d)) := by
  have h := held_in m d
  rw [held_arrays] at h ⊢
  unfold V1
  rw [Function.update_self, Function.update_of_ne (show a' ≠ out' by decide), Function.update_of_ne (show in' ≠ out' by decide),
    Function.update_of_ne (show r' ≠ out' by decide), (opIn (F := F)).result_of_not_mem (V0 m d) (b := a') (show a' ∉ ({in'} : Finset (DevRef τ sig)) by decide),
    (opIn (F := F)).result_of_not_mem (V0 m d) (b := r') (show r' ∉ ({in'} : Finset (DevRef τ sig)) by decide),
    show (opIn (F := F)).result (V0 m d) in' = flat m d from StableHlo.reshape_result _ _ _ _ _ _ _]
  rfl

/-- What the run leaves: the argument as it was, the result clamped. -/
abbrev left (d : Dev nD) : sProp (𝕄 F) := iprop((aLoc d ↦{fullShare} arg m d) ∗ rLoc d ↦{fullShare} clampCube (arg m d))

theorem held_out (d : Dev nD) :
    (held (SparseCore.T d) arrays ((opOut (F := F)).result (V1 m d)) : sProp (𝕄 F)) ⊢ left m d := by
  rw [held_arrays, (opOut (F := F)).result_of_not_mem (V1 m d) (b := a') (show a' ∉ ({r'} : Finset (DevRef τ sig)) by decide),
    show V1 m d a' = arg m d from (Function.update_of_ne (show a' ≠ out' by decide) _ _).trans
      ((opIn (F := F)).result_of_not_mem (V0 m d) (b := a') (show a' ∉ ({in'} : Finset (DevRef τ sig)) by decide)),
    show (opOut (F := F)).result (V1 m d) r' = clampCube (arg m d) from (StableHlo.reshape_result _ _ _ _ _ _ _).trans
      ((congrArg (fun g : Grid F => shapeCast S4x8192x2048 g shapeCasts_S32768x2048_S4x8192x2048) (Function.update_self out' _ _)).trans (unflat m d))]
  iintro ⟨Ha, -, -, Hr⟩
  isplitl [Ha]; · iexact Ha
  iexact Hr

theorem in_sub : (opIn (F := F)).bufs ⊆ arrays := show ({a', in'} : Finset (DevRef τ sig)) ⊆ arrays by decide
theorem out_sub : (opOut (F := F)).bufs ⊆ arrays := show ({out', r'} : Finset (DevRef τ sig)) ⊆ arrays by decide

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ left m d ∗ (K (F := F)).tcEnd d) := by
  unfold SparseCore.Cfg.tcRes SparseCore.Cfg.tcEnd
  rw [launch_held]
  simp only [main, wp_bind, wp_pure]
  iintro ⟨#Hctx, Hst, ⟨Hb, Hheld, Hts, -⟩, -⟩
  iapply (wp_hlo_within 𝒱 (SparseCore.T d) none Set.univ (op := opIn) (S := arrays) in_sub (V := V0 m d)) $$ [Hb Hheld]
  · isplitl [Hb] <;> iassumption
  iintro ⟨Hb, Hheld⟩
  rw [wp_ret]; imodintro
  ihave H := (Entails.of_eq (held_in m d)) $$ Hheld
  icases H with ⟨Ha, Hin, Hout, Hr⟩
  iapply ((K (F := F)).wp_run (D (F := F)) 𝒱 (EH := EH) (P := P m) κ d 0) $$ [Hst Ha Hin Hout Hr Hb Hts]
  isplitr; · iexact Hctx
  isplitl [Hst]; · iexact Hst
  isplitl [Hin Hout]
  · rw [← deal]
    isplitl [Hin]; · iexact Hin
    iexact Hout
  iintro ⟨Hst, Hdn⟩
  ihave H := (Entails.of_eq (gather m d)) $$ Hdn
  icases H with ⟨Hin, Hout⟩
  iapply (wp_hlo_within 𝒱 (SparseCore.T d) none Set.univ (op := opOut) (S := arrays) out_sub (V := V1 m d)) $$ [Hb Ha Hin Hout Hr]
  · isplitl [Hb]; · iexact Hb
    rw [held_call]
    isplitl [Ha]; · iexact Ha
    isplitl [Hin]; · iexact Hin
    isplitl [Hout]; · iexact Hout
    iexact Hr
  iintro ⟨Hb, Hheld⟩
  ihave H := (held_out m d) $$ Hheld
  rw [wp_ret]; imodintro; imodintro
  isplitl [Hst]; · iexact Hst
  isplitl [H]; · iexact H
  isplitl [Hb] <;> iassumption

/-- What a claim reads of the final state. -/
def final (d : Dev nD) (s' : Phys nD τ sig (Elt F)) : Prop :=
  s'.mem.mem (aLoc d) = arg m d ∧ s'.mem.mem (rLoc d) = clampCube (arg m d)

set_option maxRecDepth 16384 in
theorem hfin (d : Dev nD) (s' : Phys nD τ sig (Elt F)) : iprop(left m d ∗ SI s') ⊢ (⌜final m d s'⌝ : sProp (𝕄 F)) := by
  iintro ⟨⟨Ha, Hr⟩, HSI⟩
  ihave H := (persistent_entails_right (SI_pointsTo_agree (st := s') (ℓ := aLoc d) (I := Finset.univ) (q := fullShare) (f := arg m d))) $$ [HSI Ha]
  · isplitl [HSI] <;> iassumption
  icases H with ⟨%h1, HSI, -⟩
  ihave H := (SI_pointsTo_agree (st := s') (ℓ := rLoc d) (I := Finset.univ) (q := fullShare) (f := clampCube (arg m d))) $$ [HSI Hr]
  · isplitl [HSI] <;> iassumption
  icases H with %h2
  ipureintro
  exact ⟨funext fun j => h1 j (Finset.mem_univ j), funext fun j => h2 j (Finset.mem_univ j)⟩

/-- What every run ends in. -/
def ends : PUnit × MemSt nD τ sig (Elt F) → Prop := fun r =>
  (∀ d : Dev nD, r.2.mem (aLoc d) = arg m d ∧ r.2.mem (rLoc d) = clampCube (arg m d)) ∧ r.2.sem = fun _ => 0

theorem run_main [∀ e, Nonempty (Elt F e)] :
    θ_run (Cert.KernelIdeal.defs (F := F)) (Cert.KernelIdeal.threads (F := F)) ⟨m, fun _ => 0, ρ⟩ (ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (left m) (u₀ (F := F)) (sep_elim_left.trans (hu₀ m)) (hmain m ρ) (final m) (hfin m) (ends m)
    (fun _ h hz => ⟨h, hz⟩)

end Cert.Proof

end
-- ==== Proof.lean ====
/-
  The certificate: the clamping kernel runs, leaves its argument unchanged and every semaphore at zero, over float words
  and over the extended reals; so does the reference; and over the extended reals the two compute the same array.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import Idealize.ShloMosaic.Adequacy
public import Idealize.ShloMosaic.Init

@[expose] public section

noncomputable section

namespace Cert.Proof

open Idealize.ShloMosaic Idealize.SL.Sem

/-- Over float words the kernel's program is the text of the idealized one, so its run is that one's. -/
theorem frame_kernel : Cert.quiescent_Kernel := fun m ρ _ =>
  (θ_run Cert.KernelIdeal.defs _ _).mono (fun _ h => ⟨fun c => (h.1 c).1, h.2⟩) (run_main (F := Bits) m ρ)

theorem frame_kernelIdeal : Cert.quiescent_KernelIdeal := fun m ρ _ =>
  (θ_run Cert.KernelIdeal.defs _ _).mono (fun _ h => ⟨fun c => (h.1 c).1, h.2⟩) (run_main (F := Ideal) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The reference's result: the minimum with a broadcast one is, at each position, the minimum with one. -/
theorem reference_value (x : Cube Ideal) :
    (minimumf (F := Ideal) (φ := .f32) x
        (broadcastInDim Cert.KernelIdeal.S4x8192x2048 ![] Cert.ReferenceIdeal.Gen.bcast_S_S4x8192x2048
          (constant Cert.ReferenceIdeal.S_ .f32 0x3F800000#32)) : Cube Ideal) = clampCube x := rfl

theorem algebraic : Cert.algebraic_KernelIdeal_ReferenceIdeal := fun m ρ m' ρ' _ hm =>
  ⟨fun c => clampCube (arg m c),
    (θ_run Cert.KernelIdeal.defs _ _).mono (fun _ h c => ⟨(h.1 c).2, (h.1 c).1⟩) (run_main (F := Ideal) m ρ),
    (θ_run Cert.ReferenceIdeal.defs _ _).mono
      (fun _ h c => ⟨(h c).1.trans ((reference_value _).trans (congrArg clampCube (hm c))), (h c).2⟩)
      (Cert.ReferenceIdeal.Value.run m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
